-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v41) = v0 c
          ∧ r.2.mem ((c.tc : Thread Cert.FfnReferenceIdeal.nD Cert.FfnReferenceIdeal.τ).loc Cert.FfnReferenceIdeal.main_v42) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
-- ==== Kernel.lean ====
abbrev S4x4096x1024 : Shape := ⟨3, ![4, 4096, 1024]⟩
abbrev S4x1024 : Shape := ⟨2, ![4, 1024]⟩
abbrev S1024x1024 : Shape := ⟨2, ![1024, 1024]⟩
abbrev S16384x1024 : Shape := ⟨2, ![16384, 1024]⟩
abbrev S4x1x1024 : Shape := ⟨3, ![4, 1, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 14
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S1024x1024, .bf16⟩
  | .hbm, ⟨11, _⟩ => ⟨S4x1x1024, .f32⟩
  | .hbm, ⟨12, _⟩ => ⟨S16384x1024, .f32⟩
  | .hbm, ⟨13, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_2 : BitVec 32 := 0#32
  let c256_i32 : BitVec 32 := 256#32
  let v4 : BitVec 32 := Scalar.addi c0_i32_2 c256_i32
  let c1_i32 : BitVec 32 := 1#32
  ⟨c0_i32_2, v4, c1_i32⟩
def k0_off1 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let v37 : Index := Scalar.indexCast arg12
  let c0_21 : Index := 0#32
  ![v37.toNat, 0]
def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x4096x1024 : Shape := ⟨3, ![4, 4096, 1024]⟩
abbrev S4x1024 : Shape := ⟨2, ![4, 1024]⟩
abbrev S1024x1024 : Shape := ⟨2, ![1024, 1024]⟩
abbrev S4096x4x1024 : Shape := ⟨3, ![4096, 4, 1024]⟩
abbrev S_ : Shape := ⟨0, ![]⟩
abbrev S1x4x1024 : Shape := ⟨3, ![1, 4, 1024]⟩
abbrev S16384x1024 : Shape := ⟨2, ![16384, 1024]⟩
abbrev S4x1x1024 : Shape := ⟨3, ![4, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x1024, .f32⟩
  | .hbm, ⟨5, _⟩ => ⟨S1024x1024, .f32⟩
  | .hbm, ⟨6, _⟩ => ⟨S4096x4x1024, .f32⟩
  | .hbm, ⟨7, _⟩ => ⟨S4096x4x1024, .f32⟩
  | .hbm, ⟨8, _⟩ => ⟨S_, .f32⟩
  | .hbm, ⟨9, _⟩ => ⟨S4096x4x1024, .f32⟩
  | .hbm, ⟨10, _⟩ => ⟨S_, .i32⟩
  | .hbm, ⟨11, _⟩ => ⟨S4096x4x1024, .f32⟩
  | .hbm, ⟨12, _⟩ => ⟨S4096x4x1024, .f32⟩
  | .hbm, ⟨13, _⟩ => ⟨S_, .i32⟩
  | .hbm, ⟨14, _⟩ => ⟨S4x1024, .f32⟩
  | .hbm, ⟨15, _⟩ => ⟨S4096x4x1024, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x4x1024, .f32⟩
  | .hbm, ⟨21, _⟩ => ⟨S4x1024, .f32⟩
  | .hbm, ⟨22, _⟩ => ⟨S_, .i32⟩
  | .hbm, ⟨23, _⟩ => ⟨S_, .i32⟩
  | .hbm, ⟨24, _⟩ => ⟨S1x4x1024, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S1x4x1024, .f32⟩
  | .hbm, ⟨29, _⟩ => ⟨S_, .i32⟩
  | .hbm, ⟨30, _⟩ => ⟨S_, .i32⟩
  | .hbm, ⟨31, _⟩ => ⟨S4096x4x1024, .f32⟩
  | .hbm, ⟨32, _⟩ => ⟨S_, .i32⟩
  | .hbm, ⟨33, _⟩ => ⟨S_, .i32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | .hbm, ⟨56, _⟩ => ⟨S4x1x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_while0c_c_8 : Ref sig .tc := ⟨.hbm, 16, rfl⟩
abbrev main_while0c_v23 : Ref sig .tc := ⟨.hbm, 17, rfl⟩
abbrev main_while0b_call0_c : Ref sig .tc := ⟨.hbm, 18, rfl⟩
abbrev main_while0b_call0_c_0 : Ref sig .tc := ⟨.hbm, 19, rfl⟩
abbrev main_while0b_call0_v0 : Ref sig .tc := ⟨.hbm, 20, rfl⟩
abbrev main_while0b_v23 : Ref sig .tc := ⟨.hbm, 21, rfl⟩
abbrev main_while0b_call1_c : Ref sig .tc := ⟨.hbm, 22, rfl⟩
abbrev main_while0b_call1_c_0 : Ref sig .tc := ⟨.hbm, 23, rfl⟩
abbrev main_while0b_call1_v0 : Ref sig .tc := ⟨.hbm, 24, rfl⟩
abbrev main_while0b_v24 : Ref sig .tc := ⟨.hbm, 25, rfl⟩
abbrev main_while0b_v25 : Ref sig .tc := ⟨.hbm, 26, rfl⟩
abbrev main_while0b_v26 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_call2_c_0 : Ref sig .tc := ⟨.hbm, 30, rfl⟩
abbrev main_while0b_v27 : Ref sig .tc := ⟨.hbm, 31, rfl⟩
abbrev main_while0b_c_8 : Ref sig .tc := ⟨.hbm, 32, rfl⟩
abbrev main_while0b_v28 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩

abbrev nD : Nat := 1
abbrev τ : Topo := Topo.v7x

variable {F : FTy → Type} [FloatOps F]

abbrev main_while0_count : Scf.Loop 32 := ⟨0#32, 4096#32, 1#32⟩
-- ==== Ffn.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S4x2x5632 : Shape := ⟨3, ![4, 2, 5632]⟩
abbrev S16384x1024 : Shape := ⟨2, ![16384, 1024]⟩
abbrev S1x1024 : Shape := ⟨2, ![1, 1024]⟩
abbrev S512x1024 : Shape := ⟨2, ![512, 1024]⟩
abbrev S1x2x5632 : Shape := ⟨3, ![1, 2, 5632]⟩
abbrev S8x5632 : Shape := ⟨2, ![8, 5632]⟩
abbrev S520x256 : Shape := ⟨2, ![520, 256]⟩
abbrev S512 : Shape := ⟨1, ![512]⟩
abbrev S512x1 : Shape := ⟨2, ![512, 1]⟩
abbrev S2x5632 : Shape := ⟨2, ![2, 5632]⟩
abbrev S1024x256 : Shape := ⟨2, ![1024, 256]⟩
abbrev S512x256 : Shape := ⟨2, ![512, 256]⟩
abbrev S8x256 : Shape := ⟨2, ![8, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S4x2x5632, .f32⟩
  | .hbm, ⟨6, _⟩ => ⟨S16384x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S16384x1024, .f32⟩
  | .hbm, ⟨11, _⟩ => ⟨S4x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S2816x1024, .bf16⟩
  | .local _ .vmem, ⟨6, _⟩ => ⟨S1x2x5632, .f32⟩
  | .local _ .vmem, ⟨7, _⟩ => ⟨S1x2x5632, .f32⟩
  | .local _ .vmem, ⟨8, _⟩ => ⟨S512x1024, .f32⟩
  | .local _ .vmem, ⟨9, _⟩ => ⟨S512x1024, .f32⟩
  | .local _ .vmem, ⟨10, _⟩ => ⟨S1x2x5632, .f32⟩
  | .local _ .vmem, ⟨11, _⟩ => ⟨S1x2x5632, .f32⟩
  | .local _ .vmem, ⟨12, _⟩ => ⟨S8x5632, .f32⟩
  | .local _ .vmem, ⟨13, _⟩ => ⟨S520x256, .f32⟩
  | .local _ .vmem, ⟨14, _⟩ => ⟨S520x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let v737 : BitVec 1 := Scalar.cmpi .eq v9 c7_i32
  let v738 : BitVec 32 := Scalar.extui v737
  let c0_i32_396 : BitVec 32 := 0#32
  let v739 : BitVec 1 := Scalar.cmpi .ne v738 c0_i32_396
  v739

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S4x2x5632 : Shape := ⟨3, ![4, 2, 5632]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S16384x1024 : Shape := ⟨2, ![16384, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S4x2x5632, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x5632, .f32⟩
  | .hbm, ⟨23, _⟩ => ⟨S4x4098x5632, .f32⟩
  | .hbm, ⟨24, _⟩ => ⟨S4x4096x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S_, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | .hbm, ⟨59, _⟩ => ⟨S4x2x5632, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Proof.Lru.RefRun.lean ====
/- The reference's run, its results as functions of the state its loop ends in. -/
module

public import proofs.«01_k».proof.Proof.Gen.ReferenceIdeal.Run
public import proofs.«01_k».proof.Proof.Gen.ReferenceIdeal.Step

@[expose] public section

set_option maxRecDepth 16384

noncomputable section

namespace Cert.ReferenceIdeal.Lru

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init b9 b13)

variable {F : FTy → Type} [FloatOps F]

/-- The loop's buffers hold the state `s`, its counter the trip's number `j`. -/
def Keeps (V : Valuation τ sig (Elt F)) (s : State F) (j : ℕ) : Prop :=
  V (Proc.devRef .tc main_v3_3) = s.main_v3_3 ∧ V (Proc.devRef .tc main_v3_4) = s.main_v3_4
    ∧ V (Proc.devRef .tc main_v3_0) = s.main_v3_0 ∧ V (Proc.devRef .tc main_v3_1) = s.main_v3_1
    ∧ V (Proc.devRef .tc main_v3_2) = constantI S_ 32 (BitVec.ofNat 32 j)

variable {V : Valuation τ sig (Elt F)} {s : State F} {j : ℕ}

/-- A trip's new carried value is the step's. -/
theorem trip_h (h : Keeps V s j) : step_main_v3_3 V = b9 j s := by
  obtain ⟨h3, h4, h0, h1, h2⟩ := h
  unfold step_main_v3_3 res_main_while0b_v26
  rw [h3, h0, h1, h2]
  rfl

/-- A trip's collected rows are the step's. -/
theorem trip_rows (h : Keeps V s j) : step_main_v3_4 V = b13 j s := by
  have hb := trip_h h
  obtain ⟨h3, h4, h0, h1, h2⟩ := h
  unfold step_main_v3_3 at hb
  unfold step_main_v3_4
  rw [id_eq] at hb
  rw [h4, h2, hb]
  rfl

/-- One trip keeps the buffers holding: the next state, the next number. -/
theorem keeps_step (h : Keeps V s j) : Keeps (STEP V) (step j s) (j + 1) := by
  refine ⟨(STEP_main_v3_3 V).trans (trip_h h), (STEP_main_v3_4 V).trans (trip_rows h), (STEP_main_v3_0 V).trans h.2.2.1,
    (STEP_main_v3_1 V).trans h.2.2.2.1, (STEP_main_v3_2 V).trans ?_⟩
  unfold step_main_v3_2
  rw [h.2.2.2.2]
  funext i
  show BitVec.ofNat 32 j + 1#32 = BitVec.ofNat 32 (j + 1)
  simp only [BitVec.ofNat_add]

/-- The state the loop starts from. -/
abbrev start (m : (ℓ : Loc nD τ sig) → Buf (Elt F) ℓ) (c : Dev nD) : State F :=
  init (m ((c.tc : Thread nD τ).loc main_arg4)) (m ((c.tc : Thread nD τ).loc main_arg0)) (m ((c.tc : Thread nD τ).loc main_arg1))

set_option maxRecDepth 65536 in
theorem keeps_start (m : (ℓ : Loc nD τ sig) → Buf (Elt F) ℓ) (c : Dev nD) : Keeps (entryContents preI m c) (start m c) 0 := by
  unfold Keeps
  refine ⟨?_, ?_, ?_, ?_, ?_⟩ <;> (simp only [entryContents, afterL_cons, afterL_nil]; after_reads_simp) <;> rfl

/-- The states trip by trip. -/
def states (s : State F) : ℕ → State F
  | 0 => s
  | n + 1 => step n (states s n)

theorem keeps_iter (m : (ℓ : Loc nD τ sig) → Buf (Elt F) ℓ) (c : Dev nD) :
    ∀ k, Keeps (STEP^[k] (entryContents preI m c)) (states (start m c) k) k
  | 0 => keeps_start m c
  | k + 1 => by
    rw [Function.iterate_succ_apply']
    exact keeps_step (keeps_iter m c k)

/-- The run: both results as functions of the loop's last state, the arguments unchanged. -/
theorem run_states (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v21) = Step.R_main_v21 (states (start m c) 4096) (m ((c.tc : Thread nD τ).loc main_arg2)) (m ((c.tc : Thread nD τ).loc main_arg3)) (m ((c.tc : Thread nD τ).loc main_arg5))
      ∧ r.2.mem ((c.tc : Thread nD τ).loc main_v22) = Step.R_main_v22 (states (start m c) 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    have hk := keeps_iter m c 4096
    refine ⟨(h c).1.trans ?_, (h c).2.1.trans ?_, (h c).2.2⟩
    · unfold out_main_v21 Step.R_main_v21
      rw [hk.2.1, iter_main_arg2 m c 4096, iter_main_arg3 m c 4096, iter_main_arg5 m c 4096]
      try rfl
    · unfold out_main_v22 Step.R_main_v22
      rw [hk.1]
      try rfl) (Value.run m ρ)

end Cert.ReferenceIdeal.Lru

end
-- ==== Proof.Lru.Body.lean ====
/- The recurrence kernel's body at one grid point, at any float instance: the 256-row loop by its invariant, and what
   the body leaves in its output blocks and in the carried state, as functions of the blocks it reads. -/
module

public import proofs.«01_k».proof.Proof.Gen.KernelIdeal.Loops
public import proofs.«01_k».proof.Proof.Gen.KernelIdeal.Frame
public import Idealize.ShloMosaic.Lib.Claim
public import Idealize.ShloMosaic.Lib.VecWindow
public import Idealize.ShloMosaic.Lib.WholeRead
public import Idealize.ShloMosaic.Lib.Pointwise

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Row `k` of a block of 256 rows, as a block of one row. -/
def rowOf (X : Vec F S256x1024 .f32) (k : Fin 256) : Vec F S1x1024 .f32 := fun j => X (ix2 k (j 1))

/-- The state after the first `k` rows of a block, from the state `h` before it: row `k` multiplies by `A`'s row and
    adds `B`'s. Past the last row nothing changes. -/
def scanH (A B : Vec F S256x1024 .f32) (h : Vec F S1x1024 .f32) : ℕ → Vec F S1x1024 .f32
  | 0 => h
  | k + 1 => if hk : k < 256 then k0_pay3 (scanH A B h k) (rowOf A ⟨k, hk⟩) (rowOf B ⟨k, hk⟩) else scanH A B h k

/-- The 256 states a block produces, one per row. -/
def hsMat (A B : Vec F S256x1024 .f32) (h : Vec F S1x1024 .f32) : Vec F S256x1024 .f32 :=
  fun y => scanH A B h ((y 0).val + 1) (ix2 0 (y 1))

theorem scanH_succ (A B : Vec F S256x1024 .f32) (h : Vec F S1x1024 .f32) (k : Fin 256) :
    scanH A B h (k.val + 1) = k0_pay3 (scanH A B h k.val) (rowOf A k) (rowOf B k) := by
  rw [scanH, dif_pos k.isLt]

/-- A load of row `k` of a whole buffer is that row of what it holds. -/
theorem load_row (arg : Memref sig .tc .vmem S256x1024 .f32) (harg : arg.IsWhole) (X : Vec F S256x1024 .f32)
    (k : Fin k0_t1_loop.trips) (hk : k.val < 256) :
    View.readAt (Elt F) arg.view (Rect.unit (s := S256x1024) (k0_off1 k) S1x1024.size (k0_off1_inb k)).toLoadRect (harg.unread X)
      = rowOf X ⟨k.val, hk⟩ := by
  funext x
  rw [harg.readAt_unread]
  refine congrArg X (funext fun a => Fin.ext ?_)
  have h := k0_off1_eq k
  have h0 : (x 0).val < 1 := (x 0).isLt
  match a with
  | ⟨0, _⟩ =>
    show k0_off1 k 0 + 1 * (x 0).val = k.val
    rw [congrFun h 0]; show k.val + 1 * (x 0).val = k.val; omega
  | ⟨1, _⟩ =>
    show k0_off1 k 1 + 1 * (x 1).val = (x 1).val
    rw [congrFun h 1]; show 0 + 1 * (x 1).val = (x 1).val; omega

/-- After the store of row `k` the rows up to and with `k` hold their states, if those below `k` did before. -/
theorem rows_step (arg11 : Memref sig .tc .vmem S256x1024 .f32) (f : arg11.view.ty.Contents (Elt F)) (x0 x1 : Vec F S256x1024 .f32)
    (h : Vec F S1x1024 .f32) (k : Fin k0_t1_loop.trips) (hk : k.val < 256)
    (hf : ∀ y : S256x1024.Idx, (y 0).val < k.val → arg11.view.read (Elt F) f y = hsMat x0 x1 h y) (y : S256x1024.Idx) (hy : (y 0).val < k.val + 1) :
    arg11.view.read (Elt F) (arg11.view.writes (Elt F) f
      [⟨Rect.unit (s := S256x1024) (k0_off1 k) S1x1024.size (k0_off1_inb k), k0_pay4 (scanH x0 x1 h k.val) (rowOf x0 ⟨k.val, hk⟩) (rowOf x1 ⟨k.val, hk⟩)⟩]) y
      = hsMat x0 x1 h y := by
  by_cases he : (y 0).val = k.val
  · refine (View.read_writes_cons_rows_of_mem (d := ![256, 1024]) arg11.view f (k0_off1_inb k) _ [] y (ix2 (0 : Fin 1) (y 1)) (k0_off1_eq k) he rfl).trans ?_
    unfold hsMat
    rw [he, scanH_succ x0 x1 h ⟨k.val, hk⟩]
    unfold k0_pay4
    exact congrFun (shapeCast_id _ _) _
  · refine (View.read_writes_cons_rows_of_not_mem (d := ![256, 1024]) (W := 1) arg11.view f (k0_off1_inb k) _ [] y (k0_off1_eq k) rfl (Or.inl ?_)).trans ?_
    · exact Nat.lt_of_le_of_ne (Nat.le_of_lt_succ hy) he
    · exact hf y (Nat.lt_of_le_of_ne (Nat.le_of_lt_succ hy) he)

/-- The loop makes 256 trips. -/
theorem trips_eq : Scf.trips k0_t1_loop.lb k0_t1_loop.ub k0_t1_loop.st = 256 := by decide +kernel

/-- Rows below 256 are all the rows. -/
theorem all_rows (arg11 : Memref sig .tc .vmem S256x1024 .f32) (f : arg11.view.ty.Contents (Elt F)) (X : Vec F S256x1024 .f32)
    (hf : ∀ y : S256x1024.Idx, (y 0).val < 256 → arg11.view.read (Elt F) f y = X y) : arg11.view.read (Elt F) f = X :=
  funext fun y => hf y (y 0).isLt

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S256x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S256x1024 .f32) (harg11 : arg11.IsWhole)

/-- Before trip `k`: the two operands as they were, the rows of the state buffer below `k` at the states they produced,
    and the carried value at the state after `k` rows. -/
def scanInv (x0 x1 : Vec F S256x1024 .f32) (h : Vec F S1x1024 .f32) (k : ℕ) (acc : Vec F S1x1024 .f32) : sProp 𝕄 :=
  iprop((arg2.view.loc (c : Thread nD τ) ↦[arg2.view.set]{fullShare} harg2.unread x0) ∗ (arg3.view.loc (c : Thread nD τ) ↦[arg3.view.set]{fullShare} harg3.unread x1)
    ∗ (∃ f, (arg11.view.loc (c : Thread nD τ) ↦[arg11.view.set]{fullShare} f) ∗ ⌜∀ y : S256x1024.Idx, (y 0).val < k → arg11.view.read (Elt F) f y = hsMat x0 x1 h y⌝)
    ∗ ⌜acc = scanH x0 x1 h k⌝)

set_option warn.classDefReducibility false in
/-- The 256-row loop by that invariant. -/
@[sl_loop] def scanLoop (E : Set ℕ) (x0 x1 : Vec F S256x1024 .f32) (h : Vec F S1x1024 .f32) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 h where
  inv := scanInv c arg2 harg2 arg3 harg3 arg11 x0 x1 h
  step k acc := by
    have hk : k.val < 256 := Nat.lt_of_lt_of_le k.isLt k0_t1_abs.2.1
    unfold scanInv
    iintro ⟨H0, H1, ⟨%f, HS, %hf⟩, %hacc⟩
    subst hacc
    unfold k0_t1_body
    sl_exec
    sl_step
    isplitl [H0]; · iexact H0
    isplitl [H1]; · iexact H1
    rw [load_row arg2 harg2 x0 k hk, load_row arg3 harg3 x1 k hk]
    isplitl [HS]
    · iexists _; isplitl [HS]; · iexact HS
      ipureintro; exact rows_step arg11 f x0 x1 h k hk hf
    ipureintro
    exact (scanH_succ x0 x1 h ⟨k.val, hk⟩).symm

/-- The first conditional: this tile begins a sequence. -/
abbrev cond0 (i : grid0.Coords) : Prop :=
  (Scalar.cmpi .ne (Scalar.extui (Scalar.cmpi .eq (BitVec.ofNat 32 (i 1).val) 0#32)) 0#32) = 1#1

set_option maxHeartbeats 400000 in
/-- The body at a tile that begins a sequence: the state starts from the sequence's first state, and the carried state ends at the state after the tile's 256 rows. -/
theorem body_first (hc0 : cond0 i) (hc1 : ¬k0_cond2 i = 1#1)
    (x0 x1 x2 x3 : Vec F S256x1024 .f32) (x4 : Vec F S1x1x1024 .f32) (x5 : Vec F S1024x1024 .bf16) (d9 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 (hsMat x0 x1 (k0_pay2 x4)) x2 x3 x5) ∗ owns (c : Thread nD τ) arg9 fullShare d9 ∗ owns (c : Thread nD τ) arg10 fullShare (k0_pay5 (scanH x0 x1 (k0_pay2 x4) 256)) ∗ (∃ d, owns (c : Thread nD τ) arg11 fullShare d)) -∗ K ⟨⟩))
      ⊢ wp frame (wpE (defs₀ (F := F)) Variants.none c none) E (cc0_lru_scan i arg2 harg2 arg3 harg3 arg4 harg4 arg5 harg5 arg6 harg6 arg7 harg7 arg8 harg8 arg9 harg9 arg10 harg10 arg11 harg11) K := by
  simp only [cc0_lru_scan_eq_skeleton]; unfold cc0_lru_scan_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hf9
  sl_exec (disch := first | sl_exact hc0 | sl_exact hc1)
  have hv3 : body_first.sl.v3 c arg6 harg6 arg10 x4 = k0_pay2 x4 := by
    unfold body_first.sl.v3 body_first.sl.H10_1
    rw [View.readCov_full, View.readAt_full, harg6.read_unread]
  rw [hv3, trips_eq] at hL3
  rw [hv3, trips_eq]
  have hr : body_first.sl.r_1 c arg4 harg4 arg5 harg5 arg7 harg7 arg11 x2 x3 x5 fL0 = k0_pay6 (hsMat x0 x1 (k0_pay2 x4)) x2 x3 x5 := by
    unfold body_first.sl.r_1
    rw [View.readAt_full, View.readAt_full, View.readAt_full, View.readAt_full, harg4.read_unread, harg5.read_unread, harg7.read_unread, all_rows arg11 fL0 _ hL3]
  rw [hr]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro; exact View.read_writes_full _ _ _ _ _
  isplitl [H9]
  · iexists _; isplitr; · ipureintro; exact harg9.read_unread _
    iexact H9
  isplitl [H10]
  · iexists _; isplitr; swap; · iexact H10
    ipureintro; exact View.read_writes_full _ _ _ _ _
  iexists _, _; isplitr; swap; · iexact H11
  ipureintro; rfl

set_option maxHeartbeats 400000 in
/-- The body at a tile inside a sequence: the state starts from what the tile before left in the carried buffer. -/
theorem body_mid (hc0 : ¬cond0 i) (hc1 : ¬k0_cond2 i = 1#1)
    (x0 x1 x2 x3 : Vec F S256x1024 .f32) (x4 : Vec F S1x1x1024 .f32) (x5 : Vec F S1024x1024 .bf16) (xs : Vec F S1x1024 .f32) (d9 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ owns (c : Thread nD τ) arg10 fullShare xs ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 (hsMat x0 x1 xs) x2 x3 x5) ∗ owns (c : Thread nD τ) arg9 fullShare d9 ∗ owns (c : Thread nD τ) arg10 fullShare (k0_pay5 (scanH x0 x1 xs 256)) ∗ (∃ d, owns (c : Thread nD τ) arg11 fullShare d)) -∗ K ⟨⟩))
      ⊢ wp frame (wpE (defs₀ (F := F)) Variants.none c none) E (cc0_lru_scan i arg2 harg2 arg3 harg3 arg4 harg4 arg5 harg5 arg6 harg6 arg7 harg7 arg8 harg8 arg9 harg9 arg10 harg10 arg11 harg11) K := by
  simp only [cc0_lru_scan_eq_skeleton]; unfold cc0_lru_scan_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%f10, %hf10, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hf9
  obtain rfl := harg10.eq_unread hf10
  sl_exec (disch := first | sl_exact hc0 | sl_exact hc1)
  have hv3 : View.readAt (Elt F) arg10.view (Rect.unit ![0, 0] S1x1024.size inb_S1x1024_S1x1024_0_0).toLoadRect (harg10.unread xs) = xs := by
    rw [View.readAt_full, harg10.read_unread]
  rw [hv3, trips_eq] at hL3
  rw [hv3, trips_eq]
  have hr : body_mid.sl.r_1 c arg4 harg4 arg5 harg5 arg7 harg7 arg11 x2 x3 x5 fL0 = k0_pay6 (hsMat x0 x1 xs) x2 x3 x5 := by
    unfold body_mid.sl.r_1
    rw [View.readAt_full, View.readAt_full, View.readAt_full, View.readAt_full, harg4.read_unread, harg5.read_unread, harg7.read_unread, all_rows arg11 fL0 _ hL3]
  rw [hr]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro; exact View.read_writes_full _ _ _ _ _
  isplitl [H9]
  · iexists _; isplitr; · ipureintro; exact harg9.read_unread _
    iexact H9
  isplitl [H10]
  · iexists _; isplitr; swap; · iexact H10
    ipureintro; exact View.read_writes_full _ _ _ _ _
  iexists _, _; isplitr; swap; · iexact H11
  ipureintro; rfl

set_option maxHeartbeats 400000 in
/-- The body at a sequence's last tile: as inside, and the last state is also written to the second result. -/
theorem body_last (hc0 : ¬cond0 i) (hc1 : k0_cond2 i = 1#1)
    (x0 x1 x2 x3 : Vec F S256x1024 .f32) (x4 : Vec F S1x1x1024 .f32) (x5 : Vec F S1024x1024 .bf16) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 (hsMat x0 x1 xs) x2 x3 x5) ∗ owns (c : Thread nD τ) arg9 fullShare (k0_pay1 (scanH x0 x1 xs 256)) ∗ owns (c : Thread nD τ) arg10 fullShare (k0_pay5 (scanH x0 x1 xs 256)) ∗ (∃ d, owns (c : Thread nD τ) arg11 fullShare d)) -∗ K ⟨⟩))
      ⊢ wp frame (wpE (defs₀ (F := F)) Variants.none c none) E (cc0_lru_scan i arg2 harg2 arg3 harg3 arg4 harg4 arg5 harg5 arg6 harg6 arg7 harg7 arg8 harg8 arg9 harg9 arg10 harg10 arg11 harg11) K := by
  simp only [cc0_lru_scan_eq_skeleton]; unfold cc0_lru_scan_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%f10, %hf10, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg10.eq_unread hf10
  sl_exec (disch := first | sl_exact hc0 | sl_exact hc1)
  have hv3 : View.readAt (Elt F) arg10.view (Rect.unit ![0, 0] S1x1024.size inb_S1x1024_S1x1024_0_0).toLoadRect (harg10.unread xs) = xs := by
    rw [View.readAt_full, harg10.read_unread]
  have hq : body_last.sl.r c arg10 harg10 x0 x1 xs = scanH x0 x1 xs 256 := by
    unfold body_last.sl.r
    rw [hv3, trips_eq]
  rw [hv3, trips_eq] at hL3
  rw [hv3, trips_eq]
  have hr : body_last.sl.r_1 c arg4 harg4 arg5 harg5 arg7 harg7 arg11 x2 x3 x5 fL0 = k0_pay6 (hsMat x0 x1 xs) x2 x3 x5 := by
    unfold body_last.sl.r_1
    rw [View.readAt_full, View.readAt_full, View.readAt_full, View.readAt_full, harg4.read_unread, harg5.read_unread, harg7.read_unread, all_rows arg11 fL0 _ hL3]
  rw [hr]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro; exact View.read_writes_full _ _ _ _ _
  isplitl [H9]
  · iexists _; isplitr; swap; · iexact H9
    ipureintro; rw [View.read_writes_full, hq]
  isplitl [H10]
  · iexists _; isplitr; swap; · iexact H10
    ipureintro; exact View.read_writes_full _ _ _ _ _
  iexists _, _; isplitr; swap; · iexact H11
  ipureintro; rfl

end Cert.KernelIdeal.Lru

end
-- ==== Proof.Lru.Run.lean ====
/- The recurrence kernel over its grid: what the carried state and the output blocks hold after each tile, the body's
   obligation at every tile, the run of the whole program and its frame, at any float instance. -/
module

public import proofs.«01_k».proof.Proof.Lru.Body

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile begins a sequence exactly at the points divisible by 16. -/
theorem hcond0 (t : Fin cfg0.N) : cond0 (grid0.coords t) ↔ t.val % 16 = 0 := by
  have ht : t.val < 64 := Nat.lt_of_lt_of_eq t.isLt N_0
  have e1 : (grid0.coords t 1).val = t.val / 1 % 16 := Pipeline.Grid.coords_val t 1 (by decide) rfl
  simp only [cond0, e1]
  word_cmp

/-- A tile ends a sequence exactly at the points with remainder 15 modulo 16. -/
theorem hcond2 (t : Fin cfg0.N) : k0_cond2 (grid0.coords t) = 1#1 ↔ t.val % 16 = 15 := by
  have ht : t.val < 64 := Nat.lt_of_lt_of_eq t.isLt N_0
  have e1 : (grid0.coords t 1).val = t.val / 1 % 16 := Pipeline.Grid.coords_val t 1 (by decide) rfl
  simp only [k0_cond2, e1]
  word_cmp

/-- What the carried state holds after tile `n`. -/
def hOut (c : Dev nD) : (n : ℕ) → n < cfg0.N → Vec F S1x1024 .f32
  | 0, hn => k0_pay5 (scanH (iblk m c 0 ⟨0, hn⟩) (iblk m c 1 ⟨0, hn⟩) (k0_pay2 (iblk m c 4 ⟨0, hn⟩)) 256)
  | n + 1, hn => k0_pay5 (scanH (iblk m c 0 ⟨n + 1, hn⟩) (iblk m c 1 ⟨n + 1, hn⟩)
      (if (n + 1) % 16 = 0 then k0_pay2 (iblk m c 4 ⟨n + 1, hn⟩) else hOut c n (Nat.lt_of_succ_lt hn)) 256)

/-- The state a tile starts from: the sequence's first state at its first tile, what the tile before left otherwise. -/
def hIn (c : Dev nD) (t : Fin cfg0.N) : Vec F S1x1024 .f32 :=
  if t.val % 16 = 0 then k0_pay2 (iblk m c 4 t) else hOut m c (t.val - 1) (Nat.lt_of_le_of_lt (Nat.sub_le _ _) t.isLt)

theorem hOut_eq (c : Dev nD) (t : Fin cfg0.N) :
    hOut m c t.val t.isLt = k0_pay5 (scanH (iblk m c 0 t) (iblk m c 1 t) (hIn m c t) 256) := by
  obtain ⟨n, hn⟩ := t
  cases n with
  | zero => rfl
  | succ n => rfl

/-- The block of the first result after tile `t`. -/
def yBlk (c : Dev nD) (t : Fin cfg0.N) : Vec F S256x1024 .f32 :=
  k0_pay6 (hsMat (iblk m c 0 t) (iblk m c 1 t) (hIn m c t)) (iblk m c 2 t) (iblk m c 3 t) (iblk m c 5 t)

/-- The block of the second result after a sequence's last tile. -/
def lastBlk (c : Dev nD) (t : Fin cfg0.N) : Vec F S1x1x1024 .f32 :=
  k0_pay1 (scanH (iblk m c 0 t) (iblk m c 1 t) (hIn m c t) 256)

abbrev scM0_0 : Memref sig .tc .vmem S1x1024 .f32 := Memref.whole cc0_scratch0
abbrev scM0_1 : Memref sig .tc .vmem S256x1024 .f32 := Memref.whole cc0_scratch1

/-- What the launch hands over beside the windows: both scratch buffers at some contents, and the generator register. -/
theorem PhiA_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Between tiles: before the first everything at some contents, later the carried state at what the tile before left. -/
def PhiS (c : Dev nD) : (n : ℕ) → n ≤ cfg0.N → sProp 𝕄
  | 0, _ => Pipeline.ΦA spec0 c
  | n + 1, hn => iprop(iprop(owns (c : Thread nD τ) scM0_0 fullShare (hOut m c n hn) ∗ (∃ d, owns (c : Thread nD τ) scM0_1 fullShare d)) ∗ (∃ r, prngReg c r))

theorem PhiS_pos (c : Dev nD) (n : ℕ) (h : n ≤ cfg0.N) (hz : n ≠ 0) :
    PhiS m c n h = iprop(iprop(owns (c : Thread nD τ) scM0_0 fullShare (hOut m c (n - 1) (by omega)) ∗ (∃ d, owns (c : Thread nD τ) scM0_1 fullShare d)) ∗ (∃ r, prngReg c r)) := by
  cases n with
  | zero => exact absurd rfl hz
  | succ n => rfl

/-- At any position the carried state holds something. -/
theorem PhiS_any (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  cases n with
  | zero => rw [← PhiA_eq]; exact Idealize.SL.BI.Entails.refl _
  | succ n =>
    unfold PhiS
    iintro ⟨⟨HS0, HS1⟩, Hg⟩
    isplitl [HS0 HS1]
    · isplitl [HS0]
      · iexists _; iexact HS0
      iexact HS1
    iexact Hg

/-- The proof data: the arrays as the region finds them, the inputs' blocks unchanged, the outputs' as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yBlk m c t
    | ⟨7, _⟩ => lastBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = yBlk m c t := by dsimp only [dats]
theorem after_7 (c : Dev nD) (t : Fin cfg0.N) : (dats m 0 c).after 7 t = lastBlk m c t := by dsimp only [dats]
theorem before_0 (c : Dev nD) (t : Fin cfg0.N) (d) : (dats m 0 c).before 0 t d = iblk m c 0 t :=
  before0_0_of m (dats m 0 c) (A_eq m c 0) (fun t => after_0 m c t) t d
theorem before_1 (c : Dev nD) (t : Fin cfg0.N) (d) : (dats m 0 c).before 1 t d = iblk m c 1 t :=
  before0_1_of m (dats m 0 c) (A_eq m c 1) (fun t => after_1 m c t) t d
theorem before_2 (c : Dev nD) (t : Fin cfg0.N) (d) : (dats m 0 c).before 2 t d = iblk m c 2 t :=
  before0_2_of m (dats m 0 c) (A_eq m c 2) (fun t => after_2 m c t) t d
theorem before_3 (c : Dev nD) (t : Fin cfg0.N) (d) : (dats m 0 c).before 3 t d = iblk m c 3 t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d
abbrev ms_0 (t : Fin cfg0.N) : Memref sig .tc .vmem S256x1024 .f32 := win0_0.stage (cfg0.slots t 0)
abbrev ms_1 (t : Fin cfg0.N) : Memref sig .tc .vmem S256x1024 .f32 := win0_1.stage (cfg0.slots t 1)
abbrev ms_2 (t : Fin cfg0.N) : Memref sig .tc .vmem S256x1024 .f32 := win0_2.stage (cfg0.slots t 2)
abbrev ms_3 (t : Fin cfg0.N) : Memref sig .tc .vmem S256x1024 .f32 := win0_3.stage (cfg0.slots t 3)
abbrev ms_4 (t : Fin cfg0.N) : Memref sig .tc .vmem S1x1x1024 .f32 := win0_4.stage (cfg0.slots t 4)
abbrev ms_5 (t : Fin cfg0.N) : Memref sig .tc .vmem S1024x1024 .bf16 := win0_5.stage (cfg0.slots t 5)
abbrev ms_6 (t : Fin cfg0.N) : Memref sig .tc .vmem S256x1024 .f32 := win0_6.stage (cfg0.slots t 6)
abbrev ms_7 (t : Fin cfg0.N) : Memref sig .tc .vmem S1x1x1024 .f32 := win0_7.stage (cfg0.slots t 7)
theorem leaves_0 (c : Dev nD) (t : Fin cfg0.N) : (dats m 0 c).leavesExact 0 t = owns (c : Thread nD τ) (ms_0 t) fullShare ((dats m 0 c).after 0 t) := by
  unfold Dat.leavesExact; rw [show cfg0.idle 0 (grid0.coords t) = false from rfl]
theorem leaves_1 (c : Dev nD) (t : Fin cfg0.N) : (dats m 0 c).leavesExact 1 t = owns (c : Thread nD τ) (ms_1 t) fullShare ((dats m 0 c).after 1 t) := by
  unfold Dat.leavesExact; rw [show cfg0.idle 1 (grid0.coords t) = false from rfl]
theorem leaves_2 (c : Dev nD) (t : Fin cfg0.N) : (dats m 0 c).leavesExact 2 t = owns (c : Thread nD τ) (ms_2 t) fullShare ((dats m 0 c).after 2 t) := by
  unfold Dat.leavesExact; rw [show cfg0.idle 2 (grid0.coords t) = false from rfl]
theorem leaves_3 (c : Dev nD) (t : Fin cfg0.N) : (dats m 0 c).leavesExact 3 t = owns (c : Thread nD τ) (ms_3 t) fullShare ((dats m 0 c).after 3 t) := by
  unfold Dat.leavesExact; rw [show cfg0.idle 3 (grid0.coords t) = false from rfl]
theorem leaves_4 (c : Dev nD) (t : Fin cfg0.N) : (dats m 0 c).leavesExact 4 t = owns (c : Thread nD τ) (ms_4 t) fullShare ((dats m 0 c).after 4 t) := by
  unfold Dat.leavesExact; rw [show cfg0.idle 4 (grid0.coords t) = false from rfl]
theorem leaves_5 (c : Dev nD) (t : Fin cfg0.N) : (dats m 0 c).leavesExact 5 t = owns (c : Thread nD τ) (ms_5 t) fullShare ((dats m 0 c).after 5 t) := by
  unfold Dat.leavesExact; rw [show cfg0.idle 5 (grid0.coords t) = false from rfl]
theorem leaves_6 (c : Dev nD) (t : Fin cfg0.N) : (dats m 0 c).leavesExact 6 t = owns (c : Thread nD τ) (ms_6 t) fullShare ((dats m 0 c).after 6 t) := by
  unfold Dat.leavesExact; rw [show cfg0.idle 6 (grid0.coords t) = false from rfl]
/-- The second result's buffer at a sequence's last tile. -/
theorem leaves_7_last (c : Dev nD) (t : Fin cfg0.N) (h : t.val % 16 = 15) :
    (dats m 0 c).leavesExact 7 t = owns (c : Thread nD τ) (ms_7 t) fullShare ((dats m 0 c).after 7 t) := by
  have hi : cfg0.idle 7 (grid0.coords t) = false := by
    show (!(k0_cond2 (grid0.coords t) == 1#1)) = false
    rw [(hcond2 t).mpr h]; rfl
  unfold Dat.leavesExact; rw [hi]

/-- At the other tiles it is handed back as it was found. -/
theorem leaves_7_idle (c : Dev nD) (t : Fin cfg0.N) (h : ¬t.val % 16 = 15) :
    (dats m 0 c).leavesExact 7 t = iprop(∃ d, owns (c : Thread nD τ) (ms_7 t) fullShare ((dats m 0 c).before 7 t d)) := by
  refine Dat.leavesExact_idle _ 7 t ?_ ?_
  · show (!(k0_cond2 (grid0.coords t) == 1#1)) = true
    have : ¬k0_cond2 (grid0.coords t) = 1#1 := fun e => h ((hcond2 t).mp e)
    simp only [Bool.not_eq_true', beq_eq_false_iff_ne]; exact this
  · exact Bool.eq_false_iff.mpr fun e => h ((flush0_7 t).mp e)

/-- What the body is handed at tile `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 800000 in
/-- The body at a sequence's first tile. -/
theorem sound_first (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0 m c t, leaves_1 m c t, leaves_2 m c t, leaves_3 m c t, leaves_4 m c t, leaves_5 m c t, leaves_6 m c t, leaves_7_idle m c t h1]
  rw [after_0 m c t, after_1 m c t, after_2 m c t, after_3 m c t, after_4 m c t, after_5 m c t, after_6 m c t]
  rw [PhiS_castSucc m c t]
  unfold yBlk
  rw [show PhiS m c (t.val + 1) t.isLt = iprop(iprop(owns (c : Thread nD τ) scM0_0 fullShare (hOut m c t.val t.isLt) ∗ (∃ d, owns (c : Thread nD τ) scM0_1 fullShare d)) ∗ (∃ r, prngReg c r)) from rfl, hOut_eq m c t]
  rw [show hIn m c t = k0_pay2 (iblk m c 4 t) from if_pos h0]
  refine (sep_mono (PhiS_any m c t.val (Nat.le_of_lt t.isLt)) .rfl).trans ?_
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first c (grid0.coords t) _ _ _ _ _ _ _ _ _ _ _ _ _ _ _ _ _ _ _ _ ((hcond0 t).mpr h0) (fun h => h1 ((hcond2 t).mp h)) (iblk m c 0 t) (iblk m c 1 t) (iblk m c 2 t) (iblk m c 3 t) (iblk m c 4 t) (iblk m c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 800000 in
/-- The body at a tile inside a sequence. -/
theorem sound_mid (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0 m c t, leaves_1 m c t, leaves_2 m c t, leaves_3 m c t, leaves_4 m c t, leaves_5 m c t, leaves_6 m c t, leaves_7_idle m c t h1]
  rw [after_0 m c t, after_1 m c t, after_2 m c t, after_3 m c t, after_4 m c t, after_5 m c t, after_6 m c t]
  rw [PhiS_castSucc m c t]
  unfold yBlk
  rw [show PhiS m c (t.val + 1) t.isLt = iprop(iprop(owns (c : Thread nD τ) scM0_0 fullShare (hOut m c t.val t.isLt) ∗ (∃ d, owns (c : Thread nD τ) scM0_1 fullShare d)) ∗ (∃ r, prngReg c r)) from rfl, hOut_eq m c t]
  rw [show hIn m c t = hOut m c (t.val - 1) (Nat.lt_of_le_of_lt (Nat.sub_le _ _) t.isLt) from if_neg h0]
  rw [PhiS_pos m c t.val _ (fun h => h0 (by omega))]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_mid c (grid0.coords t) _ _ _ _ _ _ _ _ _ _ _ _ _ _ _ _ _ _ _ _ (fun h => h0 ((hcond0 t).mp h)) (fun h => h1 ((hcond2 t).mp h)) (iblk m c 0 t) (iblk m c 1 t) (iblk m c 2 t) (iblk m c 3 t) (iblk m c 4 t) (iblk m c 5 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 800000 in
/-- The body at a sequence's last tile. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0 m c t, leaves_1 m c t, leaves_2 m c t, leaves_3 m c t, leaves_4 m c t, leaves_5 m c t, leaves_6 m c t, leaves_7_last m c t h1]
  rw [after_0 m c t, after_1 m c t, after_2 m c t, after_3 m c t, after_4 m c t, after_5 m c t, after_6 m c t, after_7 m c t]
  rw [PhiS_castSucc m c t]
  unfold yBlk lastBlk
  rw [show PhiS m c (t.val + 1) t.isLt = iprop(iprop(owns (c : Thread nD τ) scM0_0 fullShare (hOut m c t.val t.isLt) ∗ (∃ d, owns (c : Thread nD τ) scM0_1 fullShare d)) ∗ (∃ r, prngReg c r)) from rfl, hOut_eq m c t]
  rw [show hIn m c t = hOut m c (t.val - 1) (Nat.lt_of_le_of_lt (Nat.sub_le _ _) t.isLt) from if_neg h0]
  rw [PhiS_pos m c t.val _ (fun h => h0 (by omega))]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_last c (grid0.coords t) _ _ _ _ _ _ _ _ _ _ _ _ _ _ _ _ _ _ _ _ (fun h => h0 ((hcond0 t).mp h)) ((hcond2 t).mpr h1) (iblk m c 0 t) (iblk m c 1 t) (iblk m c 2 t) (iblk m c 3 t) (iblk m c 4 t) (iblk m c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any tile. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_first m c t h0 (by omega)
  · by_cases h1 : t.val % 16 = 15
    · exact sound_last m c t h0 h1
    · exact sound_mid m c t h0 h1

theorem defs₀_row (t : Fin cfg0.N) :
    defs₀ (F := F) .tc cfg0.body (cfg0.bodyArgs t (cfg0.slots t)) = bodyAt0 t := by
  unfold defs₀; rw [Defs.onTc_tc]

/-- The obligation at every tile. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  exact PhiS_any m c _ _

set_option backward.isDefEq.respectTransparency.types false in
/-- The launch: every run ends with the arrays as the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run alone. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Lru

end
-- ==== Proof.Lru.Ref.lean ====
/- The recurrence, entry by entry, and the reference's loop: after `n` trips the reference's carried state is the
   recurrence's `n`-th value and its collected rows are the values so far. -/
module

public import proofs.«01_k».proof.Proof.Lru.RefRun
public import Idealize.ShloMosaic.Lib.Pointwise
public import Idealize.ShloMosaic.Lib.Claim

@[expose] public section

set_option maxRecDepth 16384

noncomputable section

namespace Cert.ReferenceIdeal.Lru

open Idealize.ShloMosaic Idealize.ShloMosaic.TcCoe Idealize.SL.Sem
open Cert.ReferenceIdeal Cert.ReferenceIdeal.Gen Cert.ReferenceIdeal.Step

/-- The recurrence of sequence `b` and channel `d`: the value after `n` positions. -/
def seqH (A B : FVec Ideal S4x4096x1024 .f32) (H : FVec Ideal S4x1024 .f32) (b : Fin 4) (d : Fin 1024) : ℕ → EReal
  | 0 => H (ix2 b d)
  | n + 1 => if hn : n < 4096 then A (ix3 b ⟨n, hn⟩ d) * seqH A B H b d n + B (ix3 b ⟨n, hn⟩ d) else seqH A B H b d n

theorem seqH_succ (A B : FVec Ideal S4x4096x1024 .f32) (H : FVec Ideal S4x1024 .f32) (b : Fin 4) (d : Fin 1024) (n : Fin 4096) :
    seqH A B H b d (n.val + 1) = A (ix3 b n d) * seqH A B H b d n.val + B (ix3 b n d) := by
  rw [seqH, dif_pos n.isLt]

/-- The three starts of trip `n`'s slices, clamped: the trip's number and two zeros. -/
abbrev st (n : ℕ) : Fin 3 → Int := fun k =>
  BitVec.toInt ((![constantI S_ 32 (BitVec.ofNat 32 n), constantI S_ 32 0#32, constantI S_ 32 0#32] : Fin 3 → (⟨S_, .i32⟩ : BufTy).Contents (Elt Ideal)) k (Shape.Idx.first h_S_))

theorem st_0 (h : S1x4x1024.rank = S4096x4x1024.rank) (n : Fin 4096) : Host.clampedStart S4096x4x1024 S1x4x1024 h (st n.val) 0 = n.val := by
  refine Host.clampedStart_of_le h (st n.val) 0 n.val ?_ ?_
  · show (BitVec.ofNat 32 n.val).toInt = _
    rw [BitVec.toInt_eq_toNat_cond, BitVec.toNat_ofNat]; omega
  · show n.val + 1 ≤ 4096
    omega

theorem st_1 (h : S1x4x1024.rank = S4096x4x1024.rank) (n : ℕ) : Host.clampedStart S4096x4x1024 S1x4x1024 h (st n) 1 = 0 :=
  Host.clampedStart_of_le h (st n) 1 0 rfl (by revert h; decide)

theorem st_2 (h : S1x4x1024.rank = S4096x4x1024.rank) (n : ℕ) : Host.clampedStart S4096x4x1024 S1x4x1024 h (st n) 2 = 0 :=
  Host.clampedStart_of_le h (st n) 2 0 rfl (by revert h; decide)

/-- One trip's new state, entry by entry. -/
theorem trip_state (s : State Ideal) (A B : FVec Ideal S4x4096x1024 .f32) (n : Fin 4096)
    (ha : s.main_v3_0 = A_main_v0 A B) (hb : s.main_v3_1 = A_main_v1 A B) (b : Fin 4) (d : Fin 1024) :
    b9 n.val s (ix2 b d) = A (ix3 b n d) * s.main_v3_3 (ix2 b d) + B (ix3 b n d) := by
  pointwise [b9, b8, b7, b6, b3, b2, b0, b1, b4, b5, A_main_v0, A_main_v1, ha, hb]
  congr 1
  · congr 1
    refine congrArg A ?_
    refine funext fun a => Fin.ext ?_
    match a with
    | ⟨0, _⟩ => exact (congrArg (· + b.val) (st_1 rfl n.val)).trans (Nat.zero_add _)
    | ⟨1, _⟩ => exact st_0 rfl n
    | ⟨2, _⟩ => exact (congrArg (· + d.val) (st_2 rfl n.val)).trans (Nat.zero_add _)
  · refine congrArg B ?_
    refine funext fun a => Fin.ext ?_
    match a with
    | ⟨0, _⟩ => exact (congrArg (· + b.val) (st_1 rfl n.val)).trans (Nat.zero_add _)
    | ⟨1, _⟩ => exact st_0 rfl n
    | ⟨2, _⟩ => exact (congrArg (· + d.val) (st_2 rfl n.val)).trans (Nat.zero_add _)

/-- One trip's collected rows: the trip's own row is the new state, the others stay. -/
theorem trip_rows_at (s : State Ideal) (n : Fin 4096) (p : Fin 4096) (b : Fin 4) (d : Fin 1024) :
    b13 n.val s (ix3 p b d) = if p = n then b9 n.val s (ix2 b d) else s.main_v3_4 (ix3 p b d) := by
  unfold b13
  rw [Host.dynamicUpdateSlice_apply]
  by_cases hp : p = n
  · subst hp
    rw [if_pos rfl, dif_pos]
    · unfold b10
      pointwise
      refine congrArg (b9 p.val s) ?_
      refine funext fun a => Fin.ext ?_
      match a with
      | ⟨0, _⟩ => exact congrArg (b.val - ·) (st_1 rfl p.val)
      | ⟨1, _⟩ => exact congrArg (d.val - ·) (st_2 rfl p.val)
    · intro a
      match a with
      | ⟨0, _⟩ =>
        show Host.clampedStart S4096x4x1024 S1x4x1024 rfl (st p.val) 0 ≤ p.val ∧ p.val < Host.clampedStart S4096x4x1024 S1x4x1024 rfl (st p.val) 0 + 1
        rw [st_0]; omega
      | ⟨1, _⟩ =>
        show Host.clampedStart S4096x4x1024 S1x4x1024 rfl (st p.val) 1 ≤ b.val ∧ b.val < Host.clampedStart S4096x4x1024 S1x4x1024 rfl (st p.val) 1 + 4
        rw [st_1]; omega
      | ⟨2, _⟩ =>
        show Host.clampedStart S4096x4x1024 S1x4x1024 rfl (st p.val) 2 ≤ d.val ∧ d.val < Host.clampedStart S4096x4x1024 S1x4x1024 rfl (st p.val) 2 + 1024
        rw [st_2]; omega
  · rw [if_neg hp, dif_neg]
    intro h
    have h0 : Host.clampedStart S4096x4x1024 S1x4x1024 rfl (st n.val) 0 ≤ p.val ∧ p.val < Host.clampedStart S4096x4x1024 S1x4x1024 rfl (st n.val) 0 + 1 := h 0
    rw [st_0] at h0
    exact hp (Fin.ext (by omega))

/-- After `n` trips: the sequences unchanged, the carried value the recurrence's `n`-th, the rows so far its values. -/
theorem states_at (A B : FVec Ideal S4x4096x1024 .f32) (H : FVec Ideal S4x1024 .f32) (n : ℕ) (hn : n ≤ 4096) :
    (states (F := Ideal) (init H A B) n).main_v3_0 = A_main_v0 A B ∧ (states (F := Ideal) (init H A B) n).main_v3_1 = A_main_v1 A B
      ∧ (∀ (b : Fin 4) (d : Fin 1024), (states (F := Ideal) (init H A B) n).main_v3_3 (ix2 b d) = seqH A B H b d n)
      ∧ (∀ (p : Fin 4096) (b : Fin 4) (d : Fin 1024), p.val < n → seqH A B H b d (p.val + 1) = (states (F := Ideal) (init H A B) n).main_v3_4 (ix3 p b d)) := by
  induction n with
  | zero => exact ⟨rfl, rfl, fun _ _ => rfl, fun p _ _ h => absurd h (Nat.not_lt_zero _)⟩
  | succ n ih =>
    obtain ⟨h0, h1, h3, h4⟩ := ih (by omega)
    have e3 : ∀ (b : Fin 4) (d : Fin 1024), (states (F := Ideal) (init H A B) (n + 1)).main_v3_3 (ix2 b d) = seqH A B H b d (n + 1) := fun b d => by
      show b9 n (states (F := Ideal) (init H A B) n) (ix2 b d) = _
      have e := trip_state (states (F := Ideal) (init H A B) n) A B ⟨n, by omega⟩ h0 h1 b d
      rw [h3] at e
      exact e.trans (seqH_succ A B H b d ⟨n, by omega⟩).symm
    refine ⟨h0, h1, e3, fun p b d hp => ?_⟩
    refine Eq.symm ?_
    show b13 n (states (F := Ideal) (init H A B) n) (ix3 p b d) = _
    refine (trip_rows_at (states (F := Ideal) (init H A B) n) ⟨n, by omega⟩ p b d).trans ?_
    by_cases h : p = ⟨n, by omega⟩
    · rw [if_pos h, show p.val = n from congrArg Fin.val h]
      exact e3 b d
    · rw [if_neg h]
      exact (h4 p b d (by have : p.val ≠ n := fun e => h (Fin.ext e); omega)).symm

end Cert.ReferenceIdeal.Lru

end
-- ==== Proof.Lru.Value.lean ====
/- The recurrence kernel's two results over the reals: the reference's. -/
module

public import proofs.«01_k».proof.Proof.Lru.Run
public import proofs.«01_k».proof.Proof.Lru.Ref
public import Idealize.ShloMosaic.Lib.Pipeline.ValueKit

@[expose] public section

set_option maxRecDepth 16384

noncomputable section

namespace Cert.KernelIdeal.Lru

open Idealize.ShloMosaic Idealize.ShloMosaic.TcCoe Idealize.SL.Sem
open Idealize.ShloMosaic.Pipeline (Dat)
open Cert.KernelIdeal Cert.KernelIdeal.Gen
open Cert.ReferenceIdeal.Lru (seqH seqH_succ states start states_at)

variable (m : (ℓ : Loc nD τ sig) → Buf (Elt Ideal) ℓ)

/-- Every window's block index at tile `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val / 16, 0, 0] ∧ win0_5.index t = ![0, 0]
    ∧ win0_6.index t = ![t.val, 0] ∧ win0_7.index t = ![t.val / 16, 0, 0] :=
  (by decide +kernel : ∀ t : Fin grid0.N, _)

abbrev argA (c : Dev nD) : FVec Ideal Cert.ReferenceIdeal.S4x4096x1024 .f32 := m ((c : Thread nD τ).loc main_arg0)
abbrev argB (c : Dev nD) : FVec Ideal Cert.ReferenceIdeal.S4x4096x1024 .f32 := m ((c : Thread nD τ).loc main_arg1)
abbrev argH (c : Dev nD) : FVec Ideal Cert.ReferenceIdeal.S4x1024 .f32 := m ((c : Thread nD τ).loc main_arg4)

/-- The sequence a tile belongs to. -/
abbrev sq (t : Fin cfg0.N) : Fin 4 := ⟨t.val / 16, by have := Nat.lt_of_lt_of_eq t.isLt N_0; omega⟩
/-- The position in its sequence of row `r` of a tile. -/
abbrev ps (t : Fin cfg0.N) (r : Fin 256) : Fin 4096 := ⟨t.val % 16 * 256 + r.val, by omega⟩

theorem read_a (c : Dev nD) (t : Fin cfg0.N) (r : Fin 256) (d : Fin 1024) :
    iblk m c 0 t (ix2 r d) = argA m c (ix3 (sq t) (ps t r) d) := by
  have ht := Nat.lt_of_lt_of_eq t.isLt N_0
  blk_simp [iblk]
  entry_read
  pointwise
  blk_ext [idx t]

theorem read_b (c : Dev nD) (t : Fin cfg0.N) (r : Fin 256) (d : Fin 1024) :
    iblk m c 1 t (ix2 r d) = argB m c (ix3 (sq t) (ps t r) d) := by
  have ht := Nat.lt_of_lt_of_eq t.isLt N_0
  blk_simp [iblk]
  entry_read
  pointwise
  blk_ext [idx t]

theorem read_h (c : Dev nD) (t : Fin cfg0.N) (d : Fin 1024) :
    iblk m c 4 t (ix3 0 0 d) = argH m c (ix2 (sq t) d) := by
  have ht := Nat.lt_of_lt_of_eq t.isLt N_0
  blk_simp [iblk]
  entry_read
  pointwise
  blk_ext [idx t]

theorem read_g (c : Dev nD) (t : Fin cfg0.N) (r : Fin 256) (d : Fin 1024) :
    iblk m c 2 t (ix2 r d) = m ((c : Thread nD τ).loc main_arg2) (ix3 (sq t) (ps t r) d) := by
  have ht := Nat.lt_of_lt_of_eq t.isLt N_0
  blk_simp [iblk]
  entry_read
  pointwise
  blk_ext [idx t]

theorem read_x (c : Dev nD) (t : Fin cfg0.N) (r : Fin 256) (d : Fin 1024) :
    iblk m c 3 t (ix2 r d) = m ((c : Thread nD τ).loc main_arg3) (ix3 (sq t) (ps t r) d) := by
  have ht := Nat.lt_of_lt_of_eq t.isLt N_0
  blk_simp [iblk]
  entry_read
  pointwise
  blk_ext [idx t]

theorem read_w (c : Dev nD) (t : Fin cfg0.N) (k d : Fin 1024) :
    iblk m c 5 t (ix2 k d) = m ((c : Thread nD τ).loc main_arg5) (ix2 k d) := by
  blk_simp [iblk]
  entry_read
  pointwise
  blk_ext [idx t]

/-- The first state of a sequence, as the kernel loads it. -/
theorem pay2_at (v : Vec Ideal S1x1x1024 .f32) (d : Fin 1024) : k0_pay2 v (ix2 0 d) = v (ix3 0 0 d) := by
  pointwise [k0_pay2]

/-- One row's step, entry by entry. -/
theorem pay3_at (h a b : Vec Ideal S1x1024 .f32) (d : Fin 1024) :
    k0_pay3 h a b (ix2 0 d) = a (ix2 0 d) * h (ix2 0 d) + b (ix2 0 d) := by
  pointwise [k0_pay3]

theorem pay5_at (v : Vec Ideal S1x1024 .f32) (d : Fin 1024) : k0_pay5 v (ix2 0 d) = v (ix2 0 d) := by
  pointwise [k0_pay5]

theorem rowOf_at (X : Vec Ideal S256x1024 .f32) (k : Fin 256) (d : Fin 1024) : rowOf X k (ix2 0 d) = X (ix2 k d) := by
  unfold rowOf
  rfl

/-- A tile's rows go on with the recurrence from where the state it starts from stands. -/
theorem scan_at (c : Dev nD) (t : Fin cfg0.N) (h : Vec Ideal S1x1024 .f32) (d : Fin 1024)
    (hh : h (ix2 0 d) = seqH (argA m c) (argB m c) (argH m c) (sq t) d (t.val % 16 * 256)) (k : ℕ) (hk : k ≤ 256) :
    scanH (iblk m c 0 t) (iblk m c 1 t) h k (ix2 0 d) = seqH (argA m c) (argB m c) (argH m c) (sq t) d (t.val % 16 * 256 + k) := by
  induction k with
  | zero => exact hh
  | succ k ih =>
    rw [scanH_succ _ _ _ ⟨k, by omega⟩, pay3_at, ih (by omega), rowOf_at, rowOf_at, read_a, read_b]
    exact (seqH_succ (argA m c) (argB m c) (argH m c) (sq t) d (ps t ⟨k, by omega⟩)).symm

/-- The state a tile starts from is the recurrence's value before the tile's first position. -/
theorem hIn_at (c : Dev nD) (d : Fin 1024) : ∀ (n : ℕ) (hn : n < cfg0.N),
    hIn m c ⟨n, hn⟩ (ix2 0 d) = seqH (argA m c) (argB m c) (argH m c) (sq ⟨n, hn⟩) d (n % 16 * 256) := by
  intro n
  induction n with
  | zero =>
    intro hn
    rw [show hIn m c ⟨0, hn⟩ = k0_pay2 (iblk m c 4 ⟨0, hn⟩) from if_pos rfl, pay2_at, read_h]
    rfl
  | succ n ih =>
    intro hn
    by_cases h0 : (n + 1) % 16 = 0
    · rw [show hIn m c ⟨n + 1, hn⟩ = k0_pay2 (iblk m c 4 ⟨n + 1, hn⟩) from if_pos h0, pay2_at, read_h, h0]
      rfl
    · rw [show hIn m c ⟨n + 1, hn⟩ = hOut m c n (by omega) from if_neg h0, hOut_eq m c ⟨n, by omega⟩, pay5_at,
        scan_at m c ⟨n, by omega⟩ _ d (ih (by omega)) 256 le_rfl]
      have e1 : sq ⟨n, by omega⟩ = sq ⟨n + 1, hn⟩ := Fin.ext (by show n / 16 = (n + 1) / 16; omega)
      have e2 : n % 16 * 256 + 256 = (n + 1) % 16 * 256 := by omega
      rw [e1, e2]

/-- A tile's states are the recurrence's values at the tile's positions. -/
theorem hs_at (c : Dev nD) (t : Fin cfg0.N) (r : Fin 256) (d : Fin 1024) :
    hsMat (iblk m c 0 t) (iblk m c 1 t) (hIn m c t) (ix2 r d)
      = seqH (argA m c) (argB m c) (argH m c) (sq t) d ((ps t r).val + 1) := by
  refine (scan_at m c t (hIn m c t) d (hIn_at m c d t.val t.isLt) (r.val + 1) (by omega)).trans ?_
  rfl

/-- The reference's loop state at the end, over the kernel's arguments. -/
abbrev refS (c : Dev nD) : Cert.ReferenceIdeal.Step.State Ideal :=
  states (F := Ideal) (Cert.ReferenceIdeal.Step.init (argH m c) (argA m c) (argB m c)) 4096

theorem hs_ref (c : Dev nD) (t : Fin cfg0.N) (r : Fin 256) (d : Fin 1024) :
    hsMat (iblk m c 0 t) (iblk m c 1 t) (hIn m c t) (ix2 r d) = (refS m c).main_v3_4 (ix3 (ps t r) (sq t) d) :=
  (hs_at m c t r d).trans ((states_at (argA m c) (argB m c) (argH m c) 4096 le_rfl).2.2.2 (ps t r) (sq t) d (ps t r).isLt)

/-- The first result's reference term. -/
abbrev REF (c : Dev nD) : FVec Ideal Cert.ReferenceIdeal.S16384x1024 .f32 :=
  Cert.ReferenceIdeal.Step.R_main_v21 (refS m c) (m ((c : Thread nD τ).loc main_arg2)) (m ((c : Thread nD τ).loc main_arg3)) (m ((c : Thread nD τ).loc main_arg5))

/-- One entry of the first result: the tile's blocks give the reference's entry once they hold its operands' entries. -/
theorem point_core (HS G X : Vec Ideal S256x1024 .f32) (W : Vec Ideal S1024x1024 .bf16) (s : Cert.ReferenceIdeal.Step.State Ideal)
    (g x : FVec Ideal Cert.ReferenceIdeal.S4x4096x1024 .f32) (w : FVec Ideal Cert.ReferenceIdeal.S1024x1024 .f32)
    (r : Fin 256) (R : Fin 16384) (e : Fin 1024)
    (hs : ∀ k : Fin 1024, HS (ix2 r k) = s.main_v3_4 (ix3 ⟨R.val % 4096, by omega⟩ ⟨R.val / 4096, by omega⟩ k))
    (hg : ∀ k : Fin 1024, G (ix2 r k) = g (ix3 ⟨R.val / 4096, by omega⟩ ⟨R.val % 4096, by omega⟩ k))
    (hx : ∀ k : Fin 1024, X (ix2 r k) = x (ix3 ⟨R.val / 4096, by omega⟩ ⟨R.val % 4096, by omega⟩ k))
    (hw : ∀ k d : Fin 1024, W (ix2 k d) = w (ix2 k d)) :
    k0_pay6 HS G X W (ix2 r e) = Cert.ReferenceIdeal.Step.R_main_v21 s g x w (ix2 R e) := by
  pointwise [k0_pay6, Cert.ReferenceIdeal.Step.R_main_v21]
  simp only [hs, hg, hx, hw, mul_assoc]

/-- The array row of row `r` of a tile. -/
abbrev rw' (t : Fin cfg0.N) (r : Fin 256) : Fin 16384 := ⟨t.val * 256 + r.val, by have := Nat.lt_of_lt_of_eq t.isLt N_0; omega⟩

theorem sq_eq (t : Fin cfg0.N) (r : Fin 256) : sq t = ⟨(rw' t r).val / 4096, by omega⟩ :=
  Fin.ext (by show t.val / 16 = (t.val * 256 + r.val) / 4096; omega)

theorem ps_eq (t : Fin cfg0.N) (r : Fin 256) : ps t r = ⟨(rw' t r).val % 4096, by omega⟩ :=
  Fin.ext (by show t.val % 16 * 256 + r.val = (t.val * 256 + r.val) % 4096; omega)

theorem point (c : Dev nD) (t : Fin cfg0.N) (r : Fin 256) (e : Fin 1024) :
    yBlk m c t (ix2 r e) = REF m c (ix2 (rw' t r) e) := by
  refine point_core _ _ _ _ _ _ _ _ r (rw' t r) e (fun k => ?_) (fun k => ?_) (fun k => ?_) (fun k d => read_w m c t k d)
  · rw [← sq_eq, ← ps_eq]; exact hs_ref m c t r k
  · rw [← sq_eq, ← ps_eq]; exact read_g m c t r k
  · rw [← sq_eq, ← ps_eq]; exact read_x m c t r k

/-- The first result's array. -/
theorem final_6 (c : Dev nD) : (dats m 0 c).arrAt 6 (cfgs 0).N = REF m c := by
  refine (dats m 0 c).arrAt_eq_of_covers 6 _ (by decide +kernel) fun t _ y => ?_
  blk_simp
  rw [after_6]
  have hp := point m c t
  generalize REF m c = X at hp ⊢
  idx_vars y
  refine (hp y0 y1).trans ?_
  blk_ext [idx t]

theorem last_core (s : Cert.ReferenceIdeal.Step.State Ideal) (v : Vec Ideal S1x1024 .f32) (b : Fin 4) (d : Fin 1024)
    (h : v (ix2 0 d) = s.main_v3_3 (ix2 b d)) :
    k0_pay1 v (ix3 0 0 d) = Cert.ReferenceIdeal.Step.R_main_v22 s (ix3 b 0 d) := by
  pointwise [k0_pay1, Cert.ReferenceIdeal.Step.R_main_v22]
  exact h

/-- A sequence's last tile leaves the reference's last state. -/
theorem point_last (c : Dev nD) (t : Fin cfg0.N) (h15 : t.val % 16 = 15) (d : Fin 1024) :
    lastBlk m c t (ix3 0 0 d) = Cert.ReferenceIdeal.Step.R_main_v22 (refS m c) (ix3 (sq t) 0 d) := by
  refine last_core (refS m c) _ (sq t) d ?_
  refine (scan_at m c t (hIn m c t) d (hIn_at m c d t.val t.isLt) 256 le_rfl).trans ?_
  rw [h15]
  exact ((states_at (argA m c) (argB m c) (argH m c) 4096 le_rfl).2.2.1 (sq t) d).symm

/-- The second result's array. -/
theorem final_7 (c : Dev nD) : (dats m 0 c).arrAt 7 (cfgs 0).N = Cert.ReferenceIdeal.Step.R_main_v22 (refS m c) := by
  refine (dats m 0 c).arrAt_eq_of_covers 7 _ (by decide +kernel) fun t hf y => ?_
  have h15 := (flush0_7 t).mp hf
  have hp := point_last m c t h15
  blk_simp
  rw [after_7]
  generalize Cert.ReferenceIdeal.Step.R_main_v22 (refS m c) = X at hp ⊢
  idx_vars y
  obtain rfl : y0 = 0 := Subsingleton.elim _ _
  obtain rfl : y1 = 0 := Subsingleton.elim _ _
  refine (hp y2).trans ?_
  blk_ext [idx t]

end Cert.KernelIdeal.Lru

end
-- ==== Proof.Lru.Claims.lean ====
/- The recurrence call's claims: the three frames and the equality with the reference over the reals. -/
module

public import proofs.«01_k».proof.Defs
public import proofs.«01_k».proof.Proof.Gen.Kernel
public import proofs.«01_k».proof.Proof.Lru.Value

@[expose] public section

set_option maxRecDepth 16384

noncomputable section

namespace Cert.Proof.Lru

open Idealize.ShloMosaic Idealize.ShloMosaic.TcCoe Idealize.SL.Sem

/-- The two printed kernels' bodies are the same text. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs _) defs₀_eq

/-- The kernel's frame at the machine's floats: the run is the one proved for any floats. -/
theorem frame_kernel : Cert.quiescent_Kernel := fun m ρ _ => by
  have h := Cert.KernelIdeal.Lru.frame_run (F := Bits) m ρ
  rw [← defs_eq] at h
  exact h

/-- The kernel's frame over the reals. -/
theorem frame_kernelIdeal : Cert.quiescent_KernelIdeal := fun m ρ _ =>
  Cert.KernelIdeal.Lru.frame_run (F := Ideal) m ρ

/-- The reference's frame; it has no semaphore. -/
theorem frame_referenceIdeal : Cert.quiescent_ReferenceIdeal := fun m ρ _ =>
  (θ_run _ _ _).mono (fun r h => ⟨fun c => (h c).2.2, sem_eq_zero_of_no_sems rfl r.2⟩)
    (Cert.ReferenceIdeal.Lru.run_states (F := Ideal) m ρ)

/-- Kernel and reference agree over the reals. -/
theorem algebraic : Cert.algebraic_KernelIdeal_ReferenceIdeal := by
  pair_intro
  · run_from Cert.KernelIdeal.Lru.run_main m g
  · have e : ∀ c, Cert.ReferenceIdeal.Lru.states (Cert.ReferenceIdeal.Lru.start m' c) 4096 = Cert.KernelIdeal.Lru.refS m c := fun c => by
      unfold Cert.ReferenceIdeal.Lru.start
      rw [(hagree c).2.2.2.2.1, (hagree c).1, (hagree c).2.1]
    run_from Cert.ReferenceIdeal.Lru.run_states m' g'
    · rw [e c, Cert.KernelIdeal.Lru.final_6 m c]
    · rw [e c, Cert.KernelIdeal.Lru.final_7 m c]

end Cert.Proof.Lru

end
-- ==== Proof.Ffn.Model.lean ====
/- The feed-forward kernel at one grid point as functions of the blocks it reads: the column chunks, the shifted rows, the
   accumulated product and the rows carried to the next tile, with the lemmas that read loads and stores as these. -/
module

public import proofs.«01_k».proof.Proof.Gen.FfnIdeal.Frame
public import proofs.«01_k».proof.Proof.Gen.FfnIdeal.Skeleton
public import Idealize.ShloMosaic.Lib.Claim
public import Idealize.ShloMosaic.Lib.VecWindow
public import Idealize.ShloMosaic.Lib.WholeRead
public import Idealize.ShloMosaic.Lib.Pointwise

@[expose] public section

set_option maxRecDepth 16384

noncomputable section

namespace Cert.FfnIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-- Columns `c0` to `c0 + 255` of the first matrix. -/
def colsW (X : Vec F S1024x5632 .bf16) (c0 : ℕ) : Vec F S1024x256 .bf16 := fun y =>
  X (ix2 (⟨(y 0).val, (y 0).isLt⟩ : Fin 1024) (⟨(c0 + (y 1).val) % 5632, Nat.mod_lt _ (by decide)⟩ : Fin 5632))

/-- Columns `c0` to `c0 + 255` of the three taps. -/
def cols3 (X : Vec F S3x5632 .f32) (c0 : ℕ) : Vec F S3x256 .f32 := fun y =>
  X (ix2 (⟨(y 0).val, (y 0).isLt⟩ : Fin 3) (⟨(c0 + (y 1).val) % 5632, Nat.mod_lt _ (by decide)⟩ : Fin 5632))

/-- Columns `c0` to `c0 + 255` of the eight carried rows. -/
def cols8 (X : Vec F S8x5632 .f32) (c0 : ℕ) : Vec F S8x256 .f32 := fun y =>
  X (ix2 (⟨(y 0).val, (y 0).isLt⟩ : Fin 8) (⟨(c0 + (y 1).val) % 5632, Nat.mod_lt _ (by decide)⟩ : Fin 5632))

/-- Rows `c0` to `c0 + 255` of the second matrix. -/
def rowsO (X : Vec F S2816x1024 .bf16) (c0 : ℕ) : Vec F S256x1024 .bf16 := fun y =>
  X (ix2 (⟨(c0 + (y 0).val) % 2816, Nat.mod_lt _ (by decide)⟩ : Fin 2816) (⟨(y 1).val, (y 1).isLt⟩ : Fin 1024))

/-- The rows two before: the last two of the eight carried, then all but the last two of the tile. -/
def sh2 (C : Vec F S8x256 .f32) (U : Vec F S512x256 .f32) : Vec F S512x256 .f32 := fun y =>
  if h : (y 0).val < 2 then C (ix2 (⟨6 + (y 0).val, by omega⟩ : Fin 8) (y 1))
  else U (ix2 (⟨(y 0).val - 2, Nat.lt_of_le_of_lt (Nat.sub_le _ _) (y 0).isLt⟩ : Fin 512) (y 1))

/-- The rows one before: the last of the eight carried, then all but the last of the tile. -/
def sh1 (C : Vec F S8x256 .f32) (U : Vec F S512x256 .f32) : Vec F S512x256 .f32 := fun y =>
  if h : (y 0).val < 1 then C (ix2 (⟨7 + (y 0).val, by omega⟩ : Fin 8) (y 1))
  else U (ix2 (⟨(y 0).val - 1, Nat.lt_of_le_of_lt (Nat.sub_le _ _) (y 0).isLt⟩ : Fin 512) (y 1))

/-- Columns `c0` to `c0 + 255` of the tile's activations. -/
def uC (xn : Vec F S512x1024 .bf16) (W : Vec F S1024x5632 .bf16) (c0 : ℕ) : Vec F S512x256 .f32 :=
  matmul dot_S512x1024_S1024x256_S512x256_1_0_0_1_n_n none xn (colsW W c0) (constant S512x256 .f32 0x00000000#32)

/-- The last eight rows of a tile. -/
def last8 (U : Vec F S512x256 .f32) : Vec F S8x256 .f32 := extractStridedSlice S8x256 ![504, 0] U slices_S512x256_o504_0_S8x256

/-- The sum over the first `n` chunks of 256 hidden columns. -/
def accF (xn : Vec F S512x1024 .bf16) (W : Vec F S1024x5632 .bf16) (cw : Vec F S3x5632 .f32) (wo : Vec F S2816x1024 .bf16) (d : Vec F S8x5632 .f32) :
    ℕ → Vec F S512x1024 .f32
  | 0 => k0_pay6
  | n + 1 => k0_pay17 (accF xn W cw wo d n)
      (k0_pay11 (uC xn W (256 * n)) (cols3 cw (256 * n)) (sh2 (cols8 d (256 * n)) (uC xn W (256 * n))) (sh1 (cols8 d (256 * n)) (uC xn W (256 * n))))
      (uC xn W (2816 + 256 * n)) (cols3 cw (2816 + 256 * n)) (sh2 (cols8 d (2816 + 256 * n)) (uC xn W (2816 + 256 * n)))
      (sh1 (cols8 d (2816 + 256 * n)) (uC xn W (2816 + 256 * n))) (rowsO wo (256 * n))

/-- The tile's block of the first result. -/
def yF (x : Vec F S512x1024 .f32) (g : Vec F S1x1024 .f32) (W : Vec F S1024x5632 .bf16) (cw : Vec F S3x5632 .f32) (wo : Vec F S2816x1024 .bf16) (d : Vec F S8x5632 .f32) :
    Vec F S512x1024 .f32 := addf (k0_pay3 x) (accF (k0_pay4 x g) W cw wo d 11)

/-- The last eight rows of the tile's activations. -/
def tailF (xn : Vec F S512x1024 .bf16) (W : Vec F S1024x5632 .bf16) : Vec F S8x5632 .f32 := fun y =>
  last8 (uC xn W (256 * ((y 1).val / 256))) (ix2 (⟨(y 0).val, (y 0).isLt⟩ : Fin 8) (⟨(y 1).val % 256, Nat.mod_lt _ (by decide)⟩ : Fin 256))

/-- Rows 6 and 7 of eight, as one block of state. -/
def stRows (d : Vec F S8x5632 .f32) : Vec F S2x5632 .f32 := fun y =>
  d (ix2 (⟨6 + (y 0).val, by have : (y 0).val < 2 := (y 0).isLt; omega⟩ : Fin 8) (⟨(y 1).val, (y 1).isLt⟩ : Fin 5632))

/-- Eight rows whose rows 6 and 7 are a sequence's first state. -/
def bufRows (b : Vec F S1x2x5632 .f32) (d : Vec F S8x5632 .f32) : Vec F S8x5632 .f32 := fun y =>
  if h : 6 ≤ (y 0).val then k0_pay5 b (ix2 (⟨(y 0).val - 6, by have : (y 0).val < 8 := (y 0).isLt; omega⟩ : Fin 2) (⟨(y 1).val, (y 1).isLt⟩ : Fin 5632)) else d y

/-- A load of a whole tile of the first argument. -/
theorem read_x (a : Memref sig .tc .vmem S512x1024 .f32) (ha : a.IsWhole) (X : Vec F S512x1024 .f32)
    (h : ∀ k, (![0, 0] : Fin 2 → ℕ) k + (![512, 1024] : Fin 2 → ℕ) k ≤ S512x1024.size k) :
    View.readAt (Elt F) a.view (Rect.unit (s := S512x1024) ![0, 0] ![512, 1024] h).toLoadRect (ha.unread X) = X := by
  funext x
  rw [ha.readAt_unread]
  refine congrArg X (funext fun k => Fin.ext ?_)
  match k with
  | ⟨0, _⟩ => show 0 + 1 * (x 0).val = (x 0).val; omega
  | ⟨1, _⟩ => show 0 + 1 * (x 1).val = (x 1).val; omega

/-- A load of the whole scale row. -/
theorem read_g (a : Memref sig .tc .vmem S1x1024 .f32) (ha : a.IsWhole) (X : Vec F S1x1024 .f32)
    (h : ∀ k, (![0, 0] : Fin 2 → ℕ) k + (![1, 1024] : Fin 2 → ℕ) k ≤ S1x1024.size k) :
    View.readAt (Elt F) a.view (Rect.unit (s := S1x1024) ![0, 0] ![1, 1024] h).toLoadRect (ha.unread X) = X := by
  funext x
  rw [ha.readAt_unread]
  refine congrArg X (funext fun k => Fin.ext ?_)
  match k with
  | ⟨0, _⟩ => show 0 + 1 * (x 0).val = (x 0).val; omega
  | ⟨1, _⟩ => show 0 + 1 * (x 1).val = (x 1).val; omega

/-- A load of 256 columns of the first matrix. -/
theorem read_colsW (a : Memref sig .tc .vmem S1024x5632 .bf16) (ha : a.IsWhole) (X : Vec F S1024x5632 .bf16) (c0 : ℕ)
    (h : ∀ k, (![0, c0] : Fin 2 → ℕ) k + (![1024, 256] : Fin 2 → ℕ) k ≤ S1024x5632.size k) :
    View.readAt (Elt F) a.view (Rect.unit (s := S1024x5632) ![0, c0] ![1024, 256] h).toLoadRect (ha.unread X) = colsW X c0 := by
  funext x
  rw [ha.readAt_unread]
  have h1 : c0 + 256 ≤ 5632 := h 1
  have hx : (x 1).val < 256 := (x 1).isLt
  refine congrArg X (funext fun k => Fin.ext ?_)
  match k with
  | ⟨0, _⟩ => show 0 + 1 * (x 0).val = (x 0).val; omega
  | ⟨1, _⟩ => show c0 + 1 * (x 1).val = (c0 + (x 1).val) % 5632; omega

/-- A load of 256 columns of the taps. -/
theorem read_cols3 (a : Memref sig .tc .vmem S3x5632 .f32) (ha : a.IsWhole) (X : Vec F S3x5632 .f32) (c0 : ℕ)
    (h : ∀ k, (![0, c0] : Fin 2 → ℕ) k + (![3, 256] : Fin 2 → ℕ) k ≤ S3x5632.size k) :
    View.readAt (Elt F) a.view (Rect.unit (s := S3x5632) ![0, c0] ![3, 256] h).toLoadRect (ha.unread X) = cols3 X c0 := by
  funext x
  rw [ha.readAt_unread]
  have h1 : c0 + 256 ≤ 5632 := h 1
  have hx : (x 1).val < 256 := (x 1).isLt
  refine congrArg X (funext fun k => Fin.ext ?_)
  match k with
  | ⟨0, _⟩ => show 0 + 1 * (x 0).val = (x 0).val; omega
  | ⟨1, _⟩ => show c0 + 1 * (x 1).val = (c0 + (x 1).val) % 5632; omega

/-- A load of 256 columns of the carried rows. -/
theorem read_cols8 (a : Memref sig .tc .vmem S8x5632 .f32) (ha : a.IsWhole) (X : Vec F S8x5632 .f32) (c0 : ℕ)
    (h : ∀ k, (![0, c0] : Fin 2 → ℕ) k + (![8, 256] : Fin 2 → ℕ) k ≤ S8x5632.size k) :
    View.readAt (Elt F) a.view (Rect.unit (s := S8x5632) ![0, c0] ![8, 256] h).toLoadRect (ha.unread X) = cols8 X c0 := by
  funext x
  rw [ha.readAt_unread]
  have h1 : c0 + 256 ≤ 5632 := h 1
  have hx : (x 1).val < 256 := (x 1).isLt
  refine congrArg X (funext fun k => Fin.ext ?_)
  match k with
  | ⟨0, _⟩ => show 0 + 1 * (x 0).val = (x 0).val; omega
  | ⟨1, _⟩ => show c0 + 1 * (x 1).val = (c0 + (x 1).val) % 5632; omega

/-- A load of 256 rows of the second matrix. -/
theorem read_rowsO (a : Memref sig .tc .vmem S2816x1024 .bf16) (ha : a.IsWhole) (X : Vec F S2816x1024 .bf16) (c0 : ℕ)
    (h : ∀ k, (![c0, 0] : Fin 2 → ℕ) k + (![256, 1024] : Fin 2 → ℕ) k ≤ S2816x1024.size k) :
    View.readAt (Elt F) a.view (Rect.unit (s := S2816x1024) ![c0, 0] ![256, 1024] h).toLoadRect (ha.unread X) = rowsO X c0 := by
  funext x
  rw [ha.readAt_unread]
  have h1 : c0 + 256 ≤ 2816 := h 0
  have hx : (x 0).val < 256 := (x 0).isLt
  refine congrArg X (funext fun k => Fin.ext ?_)
  match k with
  | ⟨0, _⟩ => show c0 + 1 * (x 0).val = (c0 + (x 0).val) % 2816; omega
  | ⟨1, _⟩ => show 0 + 1 * (x 1).val = (x 1).val; omega

/-- A load of 512 rows from row 6 after the eight carried rows and the tile's rows were stored: the rows two before. -/
theorem cov6 (a : Memref sig .tc .vmem S520x256 .f32) (C : Vec F S8x256 .f32) (U : Vec F S512x256 .f32) (L : List (View.Piece (Elt F) S520x256 .f32))
    (h8 : ∀ k, (![8, 0] : Fin 2 → ℕ) k + (![512, 256] : Fin 2 → ℕ) k ≤ S520x256.size k) (h0 : ∀ k, (![0, 0] : Fin 2 → ℕ) k + (![8, 256] : Fin 2 → ℕ) k ≤ S520x256.size k)
    (h6 : ∀ k, (![6, 0] : Fin 2 → ℕ) k + (![512, 256] : Fin 2 → ℕ) k ≤ S520x256.size k) :
    a.view.readCov ((⟨Rect.unit (s := S520x256) ![8, 0] ![512, 256] h8, U⟩ : View.Piece (Elt F) S520x256 .f32) :: (⟨Rect.unit (s := S520x256) ![0, 0] ![8, 256] h0, C⟩ : View.Piece (Elt F) S520x256 .f32) :: L)
      (Rect.unit (s := S520x256) ![6, 0] ![512, 256] h6).toLoadRect = sh2 C U := by
  funext x
  have hx : (x 0).val < 512 := (x 0).isLt
  unfold View.readCov sh2
  rw [View.readAt_apply]
  split_ifs with h
  · rw [View.read_writes_cons_unit_of_not_mem a.view _ h8 U _ _ rfl 0 (.inl (by show 6 + 1 * (x 0).val < 8; omega))]
    refine View.read_writes_cons_unit_of_mem a.view _ h0 C _ _ _ rfl fun k => ?_
    match k with
    | ⟨0, _⟩ => show 6 + 1 * (x 0).val = 0 + (6 + (x 0).val); omega
    | ⟨1, _⟩ => show 0 + 1 * (x 1).val = 0 + (x 1).val; omega
  · refine View.read_writes_cons_unit_of_mem a.view _ h8 U _ _ _ rfl fun k => ?_
    match k with
    | ⟨0, _⟩ => show 6 + 1 * (x 0).val = 8 + ((x 0).val - 2); omega
    | ⟨1, _⟩ => show 0 + 1 * (x 1).val = 0 + (x 1).val; omega

/-- A load of 512 rows from row 7 after the eight carried rows and the tile's rows were stored: the rows one before. -/
theorem cov7 (a : Memref sig .tc .vmem S520x256 .f32) (C : Vec F S8x256 .f32) (U : Vec F S512x256 .f32) (L : List (View.Piece (Elt F) S520x256 .f32))
    (h8 : ∀ k, (![8, 0] : Fin 2 → ℕ) k + (![512, 256] : Fin 2 → ℕ) k ≤ S520x256.size k) (h0 : ∀ k, (![0, 0] : Fin 2 → ℕ) k + (![8, 256] : Fin 2 → ℕ) k ≤ S520x256.size k)
    (h7 : ∀ k, (![7, 0] : Fin 2 → ℕ) k + (![512, 256] : Fin 2 → ℕ) k ≤ S520x256.size k) :
    a.view.readCov ((⟨Rect.unit (s := S520x256) ![8, 0] ![512, 256] h8, U⟩ : View.Piece (Elt F) S520x256 .f32) :: (⟨Rect.unit (s := S520x256) ![0, 0] ![8, 256] h0, C⟩ : View.Piece (Elt F) S520x256 .f32) :: L)
      (Rect.unit (s := S520x256) ![7, 0] ![512, 256] h7).toLoadRect = sh1 C U := by
  funext x
  have hx : (x 0).val < 512 := (x 0).isLt
  unfold View.readCov sh1
  rw [View.readAt_apply]
  split_ifs with h
  · rw [View.read_writes_cons_unit_of_not_mem a.view _ h8 U _ _ rfl 0 (.inl (by show 7 + 1 * (x 0).val < 8; omega))]
    refine View.read_writes_cons_unit_of_mem a.view _ h0 C _ _ _ rfl fun k => ?_
    match k with
    | ⟨0, _⟩ => show 7 + 1 * (x 0).val = 0 + (7 + (x 0).val); omega
    | ⟨1, _⟩ => show 0 + 1 * (x 1).val = 0 + (x 1).val; omega
  · refine View.read_writes_cons_unit_of_mem a.view _ h8 U _ _ _ rfl fun k => ?_
    match k with
    | ⟨0, _⟩ => show 7 + 1 * (x 0).val = 8 + ((x 0).val - 1); omega
    | ⟨1, _⟩ => show 0 + 1 * (x 1).val = 0 + (x 1).val; omega

set_option maxHeartbeats 800000 in
/-- The carried rows after all 22 chunks were stored: each column holds what its chunk stored, whatever lay there before. -/
theorem carry_read (a : Memref sig .tc .vmem S8x5632 .f32) (f : a.view.ty.Contents (Elt F)) (C : ℕ → Vec F S8x256 .f32) (L : List (View.Piece (Elt F) S8x5632 .f32)) (h0 : ∀ k, (![0, 0] : Fin 2 → ℕ) k + (![8, 256] : Fin 2 → ℕ) k ≤ S8x5632.size k) (h1 : ∀ k, (![0, 256] : Fin 2 → ℕ) k + (![8, 256] : Fin 2 → ℕ) k ≤ S8x5632.size k) (h2 : ∀ k, (![0, 512] : Fin 2 → ℕ) k + (![8, 256] : Fin 2 → ℕ) k ≤ S8x5632.size k) (h3 : ∀ k, (![0, 768] : Fin 2 → ℕ) k + (![8, 256] : Fin 2 → ℕ) k ≤ S8x5632.size k) (h4 : ∀ k, (![0, 1024] : Fin 2 → ℕ) k + (![8, 256] : Fin 2 → ℕ) k ≤ S8x5632.size k) (h5 : ∀ k, (![0, 1280] : Fin 2 → ℕ) k + (![8, 256] : Fin 2 → ℕ) k ≤ S8x5632.size k) (h6 : ∀ k, (![0, 1536] : Fin 2 → ℕ) k + (![8, 256] : Fin 2 → ℕ) k ≤ S8x5632.size k) (h7 : ∀ k, (![0, 1792] : Fin 2 → ℕ) k + (![8, 256] : Fin 2 → ℕ) k ≤ S8x5632.size k) (h8 : ∀ k, (![0, 2048] : Fin 2 → ℕ) k + (![8, 256] : Fin 2 → ℕ) k ≤ S8x5632.size k) (h9 : ∀ k, (![0, 2304] : Fin 2 → ℕ) k + (![8, 256] : Fin 2 → ℕ) k ≤ S8x5632.size k) (h10 : ∀ k, (![0, 2560] : Fin 2 → ℕ) k + (![8, 256] : Fin 2 → ℕ) k ≤ S8x5632.size k) (h11 : ∀ k, (![0, 2816] : Fin 2 → ℕ) k + (![8, 256] : Fin 2 → ℕ) k ≤ S8x5632.size k) (h12 : ∀ k, (![0, 3072] : Fin 2 → ℕ) k + (![8, 256] : Fin 2 → ℕ) k ≤ S8x5632.size k) (h13 : ∀ k, (![0, 3328] : Fin 2 → ℕ) k + (![8, 256] : Fin 2 → ℕ) k ≤ S8x5632.size k) (h14 : ∀ k, (![0, 3584] : Fin 2 → ℕ) k + (![8, 256] : Fin 2 → ℕ) k ≤ S8x5632.size k) (h15 : ∀ k, (![0, 3840] : Fin 2 → ℕ) k + (![8, 256] : Fin 2 → ℕ) k ≤ S8x5632.size k) (h16 : ∀ k, (![0, 4096] : Fin 2 → ℕ) k + (![8, 256] : Fin 2 → ℕ) k ≤ S8x5632.size k) (h17 : ∀ k, (![0, 4352] : Fin 2 → ℕ) k + (![8, 256] : Fin 2 → ℕ) k ≤ S8x5632.size k) (h18 : ∀ k, (![0, 4608] : Fin 2 → ℕ) k + (![8, 256] : Fin 2 → ℕ) k ≤ S8x5632.size k) (h19 : ∀ k, (![0, 4864] : Fin 2 → ℕ) k + (![8, 256] : Fin 2 → ℕ) k ≤ S8x5632.size k) (h20 : ∀ k, (![0, 5120] : Fin 2 → ℕ) k + (![8, 256] : Fin 2 → ℕ) k ≤ S8x5632.size k) (h21 : ∀ k, (![0, 5376] : Fin 2 → ℕ) k + (![8, 256] : Fin 2 → ℕ) k ≤ S8x5632.size k) :
    a.view.read (Elt F) (a.view.writes (Elt F) f ((⟨Rect.unit (s := S8x5632) ![0, 5376] ![8, 256] h21, C 21⟩ : View.Piece (Elt F) S8x5632 .f32) :: (⟨Rect.unit (s := S8x5632) ![0, 2560] ![8, 256] h10, C 10⟩ : View.Piece (Elt F) S8x5632 .f32) :: (⟨Rect.unit (s := S8x5632) ![0, 5120] ![8, 256] h20, C 20⟩ : View.Piece (Elt F) S8x5632 .f32) :: (⟨Rect.unit (s := S8x5632) ![0, 2304] ![8, 256] h9, C 9⟩ : View.Piece (Elt F) S8x5632 .f32) :: (⟨Rect.unit (s := S8x5632) ![0, 4864] ![8, 256] h19, C 19⟩ : View.Piece (Elt F) S8x5632 .f32) :: (⟨Rect.unit (s := S8x5632) ![0, 2048] ![8, 256] h8, C 8⟩ : View.Piece (Elt F) S8x5632 .f32) :: (⟨Rect.unit (s := S8x5632) ![0, 4608] ![8, 256] h18, C 18⟩ : View.Piece (Elt F) S8x5632 .f32) :: (⟨Rect.unit (s := S8x5632) ![0, 1792] ![8, 256] h7, C 7⟩ : View.Piece (Elt F) S8x5632 .f32) :: (⟨Rect.unit (s := S8x5632) ![0, 4352] ![8, 256] h17, C 17⟩ : View.Piece (Elt F) S8x5632 .f32) :: (⟨Rect.unit (s := S8x5632) ![0, 1536] ![8, 256] h6, C 6⟩ : View.Piece (Elt F) S8x5632 .f32) :: (⟨Rect.unit (s := S8x5632) ![0, 4096] ![8, 256] h16, C 16⟩ : View.Piece (Elt F) S8x5632 .f32) :: (⟨Rect.unit (s := S8x5632) ![0, 1280] ![8, 256] h5, C 5⟩ : View.Piece (Elt F) S8x5632 .f32) :: (⟨Rect.unit (s := S8x5632) ![0, 3840] ![8, 256] h15, C 15⟩ : View.Piece (Elt F) S8x5632 .f32) :: (⟨Rect.unit (s := S8x5632) ![0, 1024] ![8, 256] h4, C 4⟩ : View.Piece (Elt F) S8x5632 .f32) :: (⟨Rect.unit (s := S8x5632) ![0, 3584] ![8, 256] h14, C 14⟩ : View.Piece (Elt F) S8x5632 .f32) :: (⟨Rect.unit (s := S8x5632) ![0, 768] ![8, 256] h3, C 3⟩ : View.Piece (Elt F) S8x5632 .f32) :: (⟨Rect.unit (s := S8x5632) ![0, 3328] ![8, 256] h13, C 13⟩ : View.Piece (Elt F) S8x5632 .f32) :: (⟨Rect.unit (s := S8x5632) ![0, 512] ![8, 256] h2, C 2⟩ : View.Piece (Elt F) S8x5632 .f32) :: (⟨Rect.unit (s := S8x5632) ![0, 3072] ![8, 256] h12, C 12⟩ : View.Piece (Elt F) S8x5632 .f32) :: (⟨Rect.unit (s := S8x5632) ![0, 256] ![8, 256] h1, C 1⟩ : View.Piece (Elt F) S8x5632 .f32) :: (⟨Rect.unit (s := S8x5632) ![0, 2816] ![8, 256] h11, C 11⟩ : View.Piece (Elt F) S8x5632 .f32) :: (⟨Rect.unit (s := S8x5632) ![0, 0] ![8, 256] h0, C 0⟩ : View.Piece (Elt F) S8x5632 .f32) :: L))
      = fun y => C ((y 1).val / 256) (ix2 (⟨(y 0).val, (y 0).isLt⟩ : Fin 8) (⟨(y 1).val % 256, Nat.mod_lt _ (by decide)⟩ : Fin 256)) := by
  funext y
  have hy : (y 1).val < 5632 := (y 1).isLt
  by_cases e21 : (y 1).val / 256 = 21
  · rw [e21]
    refine View.read_writes_cons_unit_of_mem a.view _ h21 (C 21) _ _ _ rfl fun k => ?_
    match k with
    | ⟨0, _⟩ => show (y 0).val = 0 + (y 0).val; omega
    | ⟨1, _⟩ => show (y 1).val = 5376 + (y 1).val % 256; omega
  rw [View.read_writes_cons_unit_of_not_mem a.view _ h21 (C 21) _ _ rfl 1 (by show (y 1).val < 5376 ∨ 5376 + 256 ≤ (y 1).val; omega)]
  by_cases e10 : (y 1).val / 256 = 10
  · rw [e10]
    refine View.read_writes_cons_unit_of_mem a.view _ h10 (C 10) _ _ _ rfl fun k => ?_
    match k with
    | ⟨0, _⟩ => show (y 0).val = 0 + (y 0).val; omega
    | ⟨1, _⟩ => show (y 1).val = 2560 + (y 1).val % 256; omega
  rw [View.read_writes_cons_unit_of_not_mem a.view _ h10 (C 10) _ _ rfl 1 (by show (y 1).val < 2560 ∨ 2560 + 256 ≤ (y 1).val; omega)]
  by_cases e20 : (y 1).val / 256 = 20
  · rw [e20]
    refine View.read_writes_cons_unit_of_mem a.view _ h20 (C 20) _ _ _ rfl fun k => ?_
    match k with
    | ⟨0, _⟩ => show (y 0).val = 0 + (y 0).val; omega
    | ⟨1, _⟩ => show (y 1).val = 5120 + (y 1).val % 256; omega
  rw [View.read_writes_cons_unit_of_not_mem a.view _ h20 (C 20) _ _ rfl 1 (by show (y 1).val < 5120 ∨ 5120 + 256 ≤ (y 1).val; omega)]
  by_cases e9 : (y 1).val / 256 = 9
  · rw [e9]
    refine View.read_writes_cons_unit_of_mem a.view _ h9 (C 9) _ _ _ rfl fun k => ?_
    match k with
    | ⟨0, _⟩ => show (y 0).val = 0 + (y 0).val; omega
    | ⟨1, _⟩ => show (y 1).val = 2304 + (y 1).val % 256; omega
  rw [View.read_writes_cons_unit_of_not_mem a.view _ h9 (C 9) _ _ rfl 1 (by show (y 1).val < 2304 ∨ 2304 + 256 ≤ (y 1).val; omega)]
  by_cases e19 : (y 1).val / 256 = 19
  · rw [e19]
    refine View.read_writes_cons_unit_of_mem a.view _ h19 (C 19) _ _ _ rfl fun k => ?_
    match k with
    | ⟨0, _⟩ => show (y 0).val = 0 + (y 0).val; omega
    | ⟨1, _⟩ => show (y 1).val = 4864 + (y 1).val % 256; omega
  rw [View.read_writes_cons_unit_of_not_mem a.view _ h19 (C 19) _ _ rfl 1 (by show (y 1).val < 4864 ∨ 4864 + 256 ≤ (y 1).val; omega)]
  by_cases e8 : (y 1).val / 256 = 8
  · rw [e8]
    refine View.read_writes_cons_unit_of_mem a.view _ h8 (C 8) _ _ _ rfl fun k => ?_
    match k with
    | ⟨0, _⟩ => show (y 0).val = 0 + (y 0).val; omega
    | ⟨1, _⟩ => show (y 1).val = 2048 + (y 1).val % 256; omega
  rw [View.read_writes_cons_unit_of_not_mem a.view _ h8 (C 8) _ _ rfl 1 (by show (y 1).val < 2048 ∨ 2048 + 256 ≤ (y 1).val; omega)]
  by_cases e18 : (y 1).val / 256 = 18
  · rw [e18]
    refine View.read_writes_cons_unit_of_mem a.view _ h18 (C 18) _ _ _ rfl fun k => ?_
    match k with
    | ⟨0, _⟩ => show (y 0).val = 0 + (y 0).val; omega
    | ⟨1, _⟩ => show (y 1).val = 4608 + (y 1).val % 256; omega
  rw [View.read_writes_cons_unit_of_not_mem a.view _ h18 (C 18) _ _ rfl 1 (by show (y 1).val < 4608 ∨ 4608 + 256 ≤ (y 1).val; omega)]
  by_cases e7 : (y 1).val / 256 = 7
  · rw [e7]
    refine View.read_writes_cons_unit_of_mem a.view _ h7 (C 7) _ _ _ rfl fun k => ?_
    match k with
    | ⟨0, _⟩ => show (y 0).val = 0 + (y 0).val; omega
    | ⟨1, _⟩ => show (y 1).val = 1792 + (y 1).val % 256; omega
  rw [View.read_writes_cons_unit_of_not_mem a.view _ h7 (C 7) _ _ rfl 1 (by show (y 1).val < 1792 ∨ 1792 + 256 ≤ (y 1).val; omega)]
  by_cases e17 : (y 1).val / 256 = 17
  · rw [e17]
    refine View.read_writes_cons_unit_of_mem a.view _ h17 (C 17) _ _ _ rfl fun k => ?_
    match k with
    | ⟨0, _⟩ => show (y 0).val = 0 + (y 0).val; omega
    | ⟨1, _⟩ => show (y 1).val = 4352 + (y 1).val % 256; omega
  rw [View.read_writes_cons_unit_of_not_mem a.view _ h17 (C 17) _ _ rfl 1 (by show (y 1).val < 4352 ∨ 4352 + 256 ≤ (y 1).val; omega)]
  by_cases e6 : (y 1).val / 256 = 6
  · rw [e6]
    refine View.read_writes_cons_unit_of_mem a.view _ h6 (C 6) _ _ _ rfl fun k => ?_
    match k with
    | ⟨0, _⟩ => show (y 0).val = 0 + (y 0).val; omega
    | ⟨1, _⟩ => show (y 1).val = 1536 + (y 1).val % 256; omega
  rw [View.read_writes_cons_unit_of_not_mem a.view _ h6 (C 6) _ _ rfl 1 (by show (y 1).val < 1536 ∨ 1536 + 256 ≤ (y 1).val; omega)]
  by_cases e16 : (y 1).val / 256 = 16
  · rw [e16]
    refine View.read_writes_cons_unit_of_mem a.view _ h16 (C 16) _ _ _ rfl fun k => ?_
    match k with
    | ⟨0, _⟩ => show (y 0).val = 0 + (y 0).val; omega
    | ⟨1, _⟩ => show (y 1).val = 4096 + (y 1).val % 256; omega
  rw [View.read_writes_cons_unit_of_not_mem a.view _ h16 (C 16) _ _ rfl 1 (by show (y 1).val < 4096 ∨ 4096 + 256 ≤ (y 1).val; omega)]
  by_cases e5 : (y 1).val / 256 = 5
  · rw [e5]
    refine View.read_writes_cons_unit_of_mem a.view _ h5 (C 5) _ _ _ rfl fun k => ?_
    match k with
    | ⟨0, _⟩ => show (y 0).val = 0 + (y 0).val; omega
    | ⟨1, _⟩ => show (y 1).val = 1280 + (y 1).val % 256; omega
  rw [View.read_writes_cons_unit_of_not_mem a.view _ h5 (C 5) _ _ rfl 1 (by show (y 1).val < 1280 ∨ 1280 + 256 ≤ (y 1).val; omega)]
  by_cases e15 : (y 1).val / 256 = 15
  · rw [e15]
    refine View.read_writes_cons_unit_of_mem a.view _ h15 (C 15) _ _ _ rfl fun k => ?_
    match k with
    | ⟨0, _⟩ => show (y 0).val = 0 + (y 0).val; omega
    | ⟨1, _⟩ => show (y 1).val = 3840 + (y 1).val % 256; omega
  rw [View.read_writes_cons_unit_of_not_mem a.view _ h15 (C 15) _ _ rfl 1 (by show (y 1).val < 3840 ∨ 3840 + 256 ≤ (y 1).val; omega)]
  by_cases e4 : (y 1).val / 256 = 4
  · rw [e4]
    refine View.read_writes_cons_unit_of_mem a.view _ h4 (C 4) _ _ _ rfl fun k => ?_
    match k with
    | ⟨0, _⟩ => show (y 0).val = 0 + (y 0).val; omega
    | ⟨1, _⟩ => show (y 1).val = 1024 + (y 1).val % 256; omega
  rw [View.read_writes_cons_unit_of_not_mem a.view _ h4 (C 4) _ _ rfl 1 (by show (y 1).val < 1024 ∨ 1024 + 256 ≤ (y 1).val; omega)]
  by_cases e14 : (y 1).val / 256 = 14
  · rw [e14]
    refine View.read_writes_cons_unit_of_mem a.view _ h14 (C 14) _ _ _ rfl fun k => ?_
    match k with
    | ⟨0, _⟩ => show (y 0).val = 0 + (y 0).val; omega
    | ⟨1, _⟩ => show (y 1).val = 3584 + (y 1).val % 256; omega
  rw [View.read_writes_cons_unit_of_not_mem a.view _ h14 (C 14) _ _ rfl 1 (by show (y 1).val < 3584 ∨ 3584 + 256 ≤ (y 1).val; omega)]
  by_cases e3 : (y 1).val / 256 = 3
  · rw [e3]
    refine View.read_writes_cons_unit_of_mem a.view _ h3 (C 3) _ _ _ rfl fun k => ?_
    match k with
    | ⟨0, _⟩ => show (y 0).val = 0 + (y 0).val; omega
    | ⟨1, _⟩ => show (y 1).val = 768 + (y 1).val % 256; omega
  rw [View.read_writes_cons_unit_of_not_mem a.view _ h3 (C 3) _ _ rfl 1 (by show (y 1).val < 768 ∨ 768 + 256 ≤ (y 1).val; omega)]
  by_cases e13 : (y 1).val / 256 = 13
  · rw [e13]
    refine View.read_writes_cons_unit_of_mem a.view _ h13 (C 13) _ _ _ rfl fun k => ?_
    match k with
    | ⟨0, _⟩ => show (y 0).val = 0 + (y 0).val; omega
    | ⟨1, _⟩ => show (y 1).val = 3328 + (y 1).val % 256; omega
  rw [View.read_writes_cons_unit_of_not_mem a.view _ h13 (C 13) _ _ rfl 1 (by show (y 1).val < 3328 ∨ 3328 + 256 ≤ (y 1).val; omega)]
  by_cases e2 : (y 1).val / 256 = 2
  · rw [e2]
    refine View.read_writes_cons_unit_of_mem a.view _ h2 (C 2) _ _ _ rfl fun k => ?_
    match k with
    | ⟨0, _⟩ => show (y 0).val = 0 + (y 0).val; omega
    | ⟨1, _⟩ => show (y 1).val = 512 + (y 1).val % 256; omega
  rw [View.read_writes_cons_unit_of_not_mem a.view _ h2 (C 2) _ _ rfl 1 (by show (y 1).val < 512 ∨ 512 + 256 ≤ (y 1).val; omega)]
  by_cases e12 : (y 1).val / 256 = 12
  · rw [e12]
    refine View.read_writes_cons_unit_of_mem a.view _ h12 (C 12) _ _ _ rfl fun k => ?_
    match k with
    | ⟨0, _⟩ => show (y 0).val = 0 + (y 0).val; omega
    | ⟨1, _⟩ => show (y 1).val = 3072 + (y 1).val % 256; omega
  rw [View.read_writes_cons_unit_of_not_mem a.view _ h12 (C 12) _ _ rfl 1 (by show (y 1).val < 3072 ∨ 3072 + 256 ≤ (y 1).val; omega)]
  by_cases e1 : (y 1).val / 256 = 1
  · rw [e1]
    refine View.read_writes_cons_unit_of_mem a.view _ h1 (C 1) _ _ _ rfl fun k => ?_
    match k with
    | ⟨0, _⟩ => show (y 0).val = 0 + (y 0).val; omega
    | ⟨1, _⟩ => show (y 1).val = 256 + (y 1).val % 256; omega
  rw [View.read_writes_cons_unit_of_not_mem a.view _ h1 (C 1) _ _ rfl 1 (by show (y 1).val < 256 ∨ 256 + 256 ≤ (y 1).val; omega)]
  by_cases e11 : (y 1).val / 256 = 11
  · rw [e11]
    refine View.read_writes_cons_unit_of_mem a.view _ h11 (C 11) _ _ _ rfl fun k => ?_
    match k with
    | ⟨0, _⟩ => show (y 0).val = 0 + (y 0).val; omega
    | ⟨1, _⟩ => show (y 1).val = 2816 + (y 1).val % 256; omega
  rw [View.read_writes_cons_unit_of_not_mem a.view _ h11 (C 11) _ _ rfl 1 (by show (y 1).val < 2816 ∨ 2816 + 256 ≤ (y 1).val; omega)]
  have e0 : (y 1).val / 256 = 0 := by omega
  rw [e0]
  refine View.read_writes_cons_unit_of_mem a.view _ h0 (C 0) _ _ _ rfl fun k => ?_
  match k with
  | ⟨0, _⟩ => show (y 0).val = 0 + (y 0).val; omega
  | ⟨1, _⟩ => show (y 1).val = 0 + (y 1).val % 256; omega

/-- Storing a sequence's first state over rows 6 and 7 of the carried rows. -/
theorem buf_write (a : Memref sig .tc .vmem S8x5632 .f32) (ha : a.IsWhole) (b : Memref sig .tc .vmem S1x2x5632 .f32) (hb : b.IsWhole)
    (X : Vec F S1x2x5632 .f32) (d : Vec F S8x5632 .f32) (h : ∀ k, (![6, 0] : Fin 2 → ℕ) k + S2x5632.size k ≤ S8x5632.size k)
    (h' : ∀ k, (![0, 0, 0] : Fin 3 → ℕ) k + S1x2x5632.size k ≤ S1x2x5632.size k) :
    a.view.writes (Elt F) (ha.unread d) [(⟨Rect.unit (s := S8x5632) ![6, 0] S2x5632.size h,
      k0_pay5 (View.readAt (Elt F) b.view (Rect.unit (s := S1x2x5632) ![0, 0, 0] S1x2x5632.size h').toLoadRect (hb.unread X))⟩ : View.Piece (Elt F) S8x5632 .f32)]
      = ha.unread (bufRows X d) := by
  have hr : View.readAt (Elt F) b.view (Rect.unit (s := S1x2x5632) ![0, 0, 0] S1x2x5632.size h').toLoadRect (hb.unread X) = X := by
    funext x
    rw [hb.readAt_unread]
    refine congrArg X (funext fun k => Fin.ext ?_)
    match k with
    | ⟨0, _⟩ => show 0 + 1 * (x 0).val = (x 0).val; omega
    | ⟨1, _⟩ => show 0 + 1 * (x 1).val = (x 1).val; omega
    | ⟨2, _⟩ => show 0 + 1 * (x 2).val = (x 2).val; omega
  rw [hr]
  refine ha.eq_unread (funext fun y => ?_)
  have hy : (y 0).val < 8 := (y 0).isLt
  unfold bufRows
  split_ifs with h6
  · refine View.read_writes_cons_unit_of_mem a.view _ h _ _ _ _ rfl fun k => ?_
    match k with
    | ⟨0, _⟩ => show (y 0).val = 6 + ((y 0).val - 6); omega
    | ⟨1, _⟩ => show (y 1).val = 0 + (y 1).val; omega
  · rw [View.read_writes_cons_unit_of_not_mem a.view _ h _ _ _ rfl 0 (.inl (by show (y 0).val < 6; omega))]
    exact congrFun (ha.read_unread d) y

/-- The same with the sizes spelt out. -/
theorem buf_write' (a : Memref sig .tc .vmem S8x5632 .f32) (ha : a.IsWhole) (b : Memref sig .tc .vmem S1x2x5632 .f32) (hb : b.IsWhole)
    (X : Vec F S1x2x5632 .f32) (d : Vec F S8x5632 .f32) (h : ∀ k, (![6, 0] : Fin 2 → ℕ) k + (![2, 5632] : Fin 2 → ℕ) k ≤ S8x5632.size k)
    (h' : ∀ k, (![0, 0, 0] : Fin 3 → ℕ) k + (![1, 2, 5632] : Fin 3 → ℕ) k ≤ S1x2x5632.size k) :
    a.view.writes (Elt F) (ha.unread d) [(⟨Rect.unit (s := S8x5632) ![6, 0] ![2, 5632] h,
      k0_pay5 (View.readAt (Elt F) b.view (Rect.unit (s := S1x2x5632) ![0, 0, 0] ![1, 2, 5632] h').toLoadRect (hb.unread X))⟩ : View.Piece (Elt F) S8x5632 .f32)]
      = ha.unread (bufRows X d) := buf_write a ha b hb X d h h'

end Cert.FfnIdeal.Ffn

end
-- ==== Proof.Ffn.Rows.lean ====
/- The condition under which a tile begins a sequence; and: the tile's result depends on the carried rows only through rows 6 and 7. -/
module

public import proofs.«01_k».proof.Proof.Ffn.Model

@[expose] public section

set_option maxRecDepth 16384

noncomputable section

namespace Cert.FfnIdeal.Ffn

open Idealize.ShloMosaic Idealize.ShloMosaic.TcCoe Idealize.ShloMosaic.Tactic
open Cert.FfnIdeal Cert.FfnIdeal.Gen

variable {F : FTy → Type} [FloatOps F]

/-- The first conditional: this tile begins a sequence. -/
abbrev cond0 (i : grid0.Coords) : Prop :=
  let v0 : BitVec 1 := Scalar.cmpi .eq 8#32 0#32
  let v1 : BitVec 32 := Scalar.select v0 1#32 8#32
  let v2 : BitVec 32 := Scalar.remsi (BitVec.ofNat 32 (i 0).val) v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  (Scalar.cmpi .ne (Scalar.extui (Scalar.cmpi .eq v9 0#32)) 0#32) = 1#1

/-- The rows two before agree when rows 6 and 7 of the carried rows do. -/
theorem sh2_congr (d d' : Vec F S8x5632 .f32) (h : ∀ (k : Fin 8) (j : Fin 5632), 6 ≤ k.val → d (ix2 k j) = d' (ix2 k j)) (n : ℕ) (U : Vec F S512x256 .f32) :
    sh2 (cols8 d n) U = sh2 (cols8 d' n) U := by
  funext y
  unfold sh2
  split
  · exact h _ _ (Nat.le_add_right 6 _)
  · rfl

/-- The rows one before agree when row 7 of the carried rows does. -/
theorem sh1_congr (d d' : Vec F S8x5632 .f32) (h : ∀ (k : Fin 8) (j : Fin 5632), 6 ≤ k.val → d (ix2 k j) = d' (ix2 k j)) (n : ℕ) (U : Vec F S512x256 .f32) :
    sh1 (cols8 d n) U = sh1 (cols8 d' n) U := by
  funext y
  unfold sh1
  split
  · exact h _ _ (Nat.le_trans (by decide : 6 ≤ 7) (Nat.le_add_right 7 _))
  · rfl

/-- The accumulated product agrees when rows 6 and 7 of the carried rows do. -/
theorem accF_congr (xn : Vec F S512x1024 .bf16) (W : Vec F S1024x5632 .bf16) (cw : Vec F S3x5632 .f32) (wo : Vec F S2816x1024 .bf16) (d d' : Vec F S8x5632 .f32)
    (h : ∀ (k : Fin 8) (j : Fin 5632), 6 ≤ k.val → d (ix2 k j) = d' (ix2 k j)) (n : ℕ) : accF xn W cw wo d n = accF xn W cw wo d' n := by
  induction n with
  | zero => rfl
  | succ n ih => rw [accF, accF, ih, sh2_congr d d' h, sh1_congr d d' h, sh2_congr d d' h, sh1_congr d d' h]

/-- The tile's result agrees when rows 6 and 7 of the carried rows do. -/
theorem yF_congr (x : Vec F S512x1024 .f32) (g : Vec F S1x1024 .f32) (W : Vec F S1024x5632 .bf16) (cw : Vec F S3x5632 .f32) (wo : Vec F S2816x1024 .bf16) (d d' : Vec F S8x5632 .f32)
    (h : ∀ (k : Fin 8) (j : Fin 5632), 6 ≤ k.val → d (ix2 k j) = d' (ix2 k j)) : yF x g W cw wo d = yF x g W cw wo d' := by
  unfold yF; rw [accF_congr _ W cw wo d d' h]

/-- At a sequence's first tile the rows the carried buffer held before do not matter. -/
theorem yF_bufRows (x : Vec F S512x1024 .f32) (g : Vec F S1x1024 .f32) (W : Vec F S1024x5632 .bf16) (cw : Vec F S3x5632 .f32) (wo : Vec F S2816x1024 .bf16) (b : Vec F S1x2x5632 .f32) (d d' : Vec F S8x5632 .f32) :
    yF x g W cw wo (bufRows b d) = yF x g W cw wo (bufRows b d') := by
  refine yF_congr x g W cw wo _ _ fun k j hk => ?_
  unfold bufRows
  rw [dif_pos (show 6 ≤ (ix2 k j 0).val from hk), dif_pos (show 6 ≤ (ix2 k j 0).val from hk)]

end Cert.FfnIdeal.Ffn
-- ==== Proof.Ffn.BodyFirst.lean ====
/- The feed-forward kernel's body at one grid point, at any float instance: what it leaves in its output blocks and in the
   carried rows, as functions of the blocks it reads. -/
module

public import proofs.«01_k».proof.Proof.Gen.FfnIdeal.Frame
public import proofs.«01_k».proof.Proof.Ffn.Rows
public import proofs.«01_k».proof.Proof.Gen.FfnIdeal.Skeleton
public import Idealize.ShloMosaic.Lib.Tactic.RunNames
public import Idealize.ShloMosaic.Lib.Claim
public import Idealize.ShloMosaic.Lib.VecWindow
public import Idealize.ShloMosaic.Lib.WholeRead
public import Idealize.ShloMosaic.Lib.Pointwise

@[expose] public section

set_option maxRecDepth 16384

noncomputable section

namespace Cert.FfnIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S2816x1024 .bf16) (harg5 : arg5.IsWhole) (arg6 : Memref sig .tc .vmem S1x2x5632 .f32) (harg6 : arg6.IsWhole) (arg7 : Memref sig .tc .vmem S512x1024 .f32) (harg7 : arg7.IsWhole) (arg8 : Memref sig .tc .vmem S1x2x5632 .f32) (harg8 : arg8.IsWhole) (arg9 : Memref sig .tc .vmem S8x5632 .f32) (harg9 : arg9.IsWhole) (arg10 : Memref sig .tc .vmem S520x256 .f32) (harg10 : arg10.IsWhole) (arg11 : Memref sig .tc .vmem S520x256 .f32) (harg11 : arg11.IsWhole)

set_option maxHeartbeats 4000000 in
/-- The body at a sequence's first tile: rows 6 and 7 of the carried buffer start as the sequence's first state. -/
theorem body_first (hc0 : cond0 i) (hc1 : ¬k0_cond2 i = 1#1)
    (x0 : Vec F S512x1024 .f32) (x1 : Vec F S1x1024 .f32) (x2 : Vec F S1024x5632 .bf16) (x3 : Vec F S3x5632 .f32) (x4 : Vec F S2816x1024 .bf16) (x5 : Vec F S1x2x5632 .f32) (d9 : Vec F S8x5632 .f32) (d8 : Vec F S1x2x5632 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d8 ∗ owns (c : Thread nD τ) arg9 fullShare d9 ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yF x0 x1 x2 x3 x4 (bufRows x5 d9)) ∗ owns (c : Thread nD τ) arg8 fullShare d8 ∗ owns (c : Thread nD τ) arg9 fullShare (tailF (k0_pay4 x0 x1) x2) ∗ (∃ d, owns (c : Thread nD τ) arg10 fullShare d) ∗ (∃ d, owns (c : Thread nD τ) arg11 fullShare d)) -∗ K ⟨⟩))
      ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11) K := by
  simp only [cc0_ffn_prompt_eq_skeleton]; unfold cc0_ffn_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%f9, %hf9, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf9
  obtain rfl := harg8.eq_unread hf8
  set_option sl_exec.stopBefore "k0_part2" in sl_exec (disch := first | sl_exact hc0 | sl_exact hc1)
  delta body_first.sl.H9_1
  first | rw [buf_write arg9 harg9 arg6 harg6 x5 d9] | rw [buf_write' arg9 harg9 arg6 harg6 x5 d9]
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    refine (View.read_writes_full _ _ _ _ _).trans ?_
    sl_unfold_run_values
    simp only [buf_write', read_x, read_g, read_colsW, read_cols3, read_cols8, read_rowsO]
    delta body_first.sl.H10_22 body_first.sl.H11_22
    simp only [cov6, cov7]
    delta body_first.sl.H10_20 body_first.sl.H11_20
    simp only [cov6, cov7]
    delta body_first.sl.H10_18 body_first.sl.H11_18
    simp only [cov6, cov7]
    delta body_first.sl.H10_16 body_first.sl.H11_16
    simp only [cov6, cov7]
    delta body_first.sl.H10_14 body_first.sl.H11_14
    simp only [cov6, cov7]
    delta body_first.sl.H10_12 body_first.sl.H11_12
    simp only [cov6, cov7]
    delta body_first.sl.H10_10 body_first.sl.H11_10
    simp only [cov6, cov7]
    delta body_first.sl.H10_8 body_first.sl.H11_8
    simp only [cov6, cov7]
    delta body_first.sl.H10_6 body_first.sl.H11_6
    simp only [cov6, cov7]
    delta body_first.sl.H10_4 body_first.sl.H11_4
    simp only [cov6, cov7]
    delta body_first.sl.H10_2 body_first.sl.H11_2
    simp only [cov6, cov7]
    sl_unfold_run_values
    delta body_first.sl.H9_1
    sl_unfold_run_values
    simp only [buf_write', read_x, read_g, read_colsW, read_cols3, read_cols8, read_rowsO]
    simp only [yF, accF, uC, Nat.reduceMul, Nat.reduceAdd]
    simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, shapeCast_self]
  isplitl [H8]
  · iexists _; isplitr; · ipureintro; exact harg8.read_unread _
    iexact H8
  isplitl [H9]
  · iexists _; isplitr; swap; · iexact H9
    ipureintro
    sl_unfold_run_values
    simp only [buf_write', read_x, read_g, read_colsW, read_cols3, read_cols8, read_rowsO]
    simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, shapeCast_self]
    exact carry_read arg9 _ (fun k => last8 (uC (k0_pay4 x0 x1) x2 (256 * k))) _ _ _ _ _ _ _ _ _ _ _ _ _ _ _ _ _ _ _ _ _ _ _
  isplitl [H10]
  · iexists _, _; isplitr; swap; · iexact H10
    ipureintro; rfl
  iexists _, _; isplitr; swap; · iexact H11
  ipureintro; rfl

end Cert.FfnIdeal.Ffn

end
-- ==== Proof.Ffn.BodyMid.lean ====
/- The feed-forward kernel's body at one grid point, at any float instance: what it leaves in its output blocks and in the
   carried rows, as functions of the blocks it reads. -/
module

public import proofs.«01_k».proof.Proof.Gen.FfnIdeal.Frame
public import proofs.«01_k».proof.Proof.Ffn.Rows
public import proofs.«01_k».proof.Proof.Gen.FfnIdeal.Skeleton
public import Idealize.ShloMosaic.Lib.Tactic.RunNames
public import Idealize.ShloMosaic.Lib.Claim
public import Idealize.ShloMosaic.Lib.VecWindow
public import Idealize.ShloMosaic.Lib.WholeRead
public import Idealize.ShloMosaic.Lib.Pointwise

@[expose] public section

set_option maxRecDepth 16384

noncomputable section

namespace Cert.FfnIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S2816x1024 .bf16) (harg5 : arg5.IsWhole) (arg6 : Memref sig .tc .vmem S1x2x5632 .f32) (harg6 : arg6.IsWhole) (arg7 : Memref sig .tc .vmem S512x1024 .f32) (harg7 : arg7.IsWhole) (arg8 : Memref sig .tc .vmem S1x2x5632 .f32) (harg8 : arg8.IsWhole) (arg9 : Memref sig .tc .vmem S8x5632 .f32) (harg9 : arg9.IsWhole) (arg10 : Memref sig .tc .vmem S520x256 .f32) (harg10 : arg10.IsWhole) (arg11 : Memref sig .tc .vmem S520x256 .f32) (harg11 : arg11.IsWhole)

set_option maxHeartbeats 4000000 in
/-- The body at a tile inside a sequence: the rows before the tile come from the carried buffer. -/
theorem body_mid (hc0 : ¬cond0 i) (hc1 : ¬k0_cond2 i = 1#1)
    (x0 : Vec F S512x1024 .f32) (x1 : Vec F S1x1024 .f32) (x2 : Vec F S1024x5632 .bf16) (x3 : Vec F S3x5632 .f32) (x4 : Vec F S2816x1024 .bf16) (x5 : Vec F S1x2x5632 .f32) (d9 : Vec F S8x5632 .f32) (d8 : Vec F S1x2x5632 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d8 ∗ owns (c : Thread nD τ) arg9 fullShare d9 ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yF x0 x1 x2 x3 x4 d9) ∗ owns (c : Thread nD τ) arg8 fullShare d8 ∗ owns (c : Thread nD τ) arg9 fullShare (tailF (k0_pay4 x0 x1) x2) ∗ (∃ d, owns (c : Thread nD τ) arg10 fullShare d) ∗ (∃ d, owns (c : Thread nD τ) arg11 fullShare d)) -∗ K ⟨⟩))
      ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11) K := by
  simp only [cc0_ffn_prompt_eq_skeleton]; unfold cc0_ffn_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%f9, %hf9, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf9
  obtain rfl := harg8.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    refine (View.read_writes_full _ _ _ _ _).trans ?_
    sl_unfold_run_values
    simp only [buf_write', read_x, read_g, read_colsW, read_cols3, read_cols8, read_rowsO]
    delta body_mid.sl.H10_22 body_mid.sl.H11_22
    simp only [cov6, cov7]
    delta body_mid.sl.H10_20 body_mid.sl.H11_20
    simp only [cov6, cov7]
    delta body_mid.sl.H10_18 body_mid.sl.H11_18
    simp only [cov6, cov7]
    delta body_mid.sl.H10_16 body_mid.sl.H11_16
    simp only [cov6, cov7]
    delta body_mid.sl.H10_14 body_mid.sl.H11_14
    simp only [cov6, cov7]
    delta body_mid.sl.H10_12 body_mid.sl.H11_12
    simp only [cov6, cov7]
    delta body_mid.sl.H10_10 body_mid.sl.H11_10
    simp only [cov6, cov7]
    delta body_mid.sl.H10_8 body_mid.sl.H11_8
    simp only [cov6, cov7]
    delta body_mid.sl.H10_6 body_mid.sl.H11_6
    simp only [cov6, cov7]
    delta body_mid.sl.H10_4 body_mid.sl.H11_4
    simp only [cov6, cov7]
    delta body_mid.sl.H10_2 body_mid.sl.H11_2
    simp only [cov6, cov7]
    sl_unfold_run_values
    simp only [buf_write', read_x, read_g, read_colsW, read_cols3, read_cols8, read_rowsO]
    simp only [yF, accF, uC, Nat.reduceMul, Nat.reduceAdd]
    simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, shapeCast_self]
  isplitl [H8]
  · iexists _; isplitr; · ipureintro; exact harg8.read_unread _
    iexact H8
  isplitl [H9]
  · iexists _; isplitr; swap; · iexact H9
    ipureintro
    sl_unfold_run_values
    simp only [buf_write', read_x, read_g, read_colsW, read_cols3, read_cols8, read_rowsO]
    simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, shapeCast_self]
    exact carry_read arg9 _ (fun k => last8 (uC (k0_pay4 x0 x1) x2 (256 * k))) _ _ _ _ _ _ _ _ _ _ _ _ _ _ _ _ _ _ _ _ _ _ _
  isplitl [H10]
  · iexists _, _; isplitr; swap; · iexact H10
    ipureintro; rfl
  iexists _, _; isplitr; swap; · iexact H11
  ipureintro; rfl

end Cert.FfnIdeal.Ffn

end
-- ==== Proof.Ffn.BodyLast.lean ====
/- The feed-forward kernel's body at one grid point, at any float instance: what it leaves in its output blocks and in the
   carried rows, as functions of the blocks it reads. -/
module

public import proofs.«01_k».proof.Proof.Gen.FfnIdeal.Frame
public import proofs.«01_k».proof.Proof.Ffn.Rows
public import proofs.«01_k».proof.Proof.Gen.FfnIdeal.Skeleton
public import Idealize.ShloMosaic.Lib.Tactic.RunNames
public import Idealize.ShloMosaic.Lib.Claim
public import Idealize.ShloMosaic.Lib.VecWindow
public import Idealize.ShloMosaic.Lib.WholeRead
public import Idealize.ShloMosaic.Lib.Pointwise

@[expose] public section

set_option maxRecDepth 16384

noncomputable section

namespace Cert.FfnIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S2816x1024 .bf16) (harg5 : arg5.IsWhole) (arg6 : Memref sig .tc .vmem S1x2x5632 .f32) (harg6 : arg6.IsWhole) (arg7 : Memref sig .tc .vmem S512x1024 .f32) (harg7 : arg7.IsWhole) (arg8 : Memref sig .tc .vmem S1x2x5632 .f32) (harg8 : arg8.IsWhole) (arg9 : Memref sig .tc .vmem S8x5632 .f32) (harg9 : arg9.IsWhole) (arg10 : Memref sig .tc .vmem S520x256 .f32) (harg10 : arg10.IsWhole) (arg11 : Memref sig .tc .vmem S520x256 .f32) (harg11 : arg11.IsWhole)

set_option maxHeartbeats 4000000 in
/-- The body at a sequence's last tile: as inside, and the last two rows are also written to the second result. -/
theorem body_last (hc0 : ¬cond0 i) (hc1 : k0_cond2 i = 1#1)
    (x0 : Vec F S512x1024 .f32) (x1 : Vec F S1x1024 .f32) (x2 : Vec F S1024x5632 .bf16) (x3 : Vec F S3x5632 .f32) (x4 : Vec F S2816x1024 .bf16) (x5 : Vec F S1x2x5632 .f32) (d9 : Vec F S8x5632 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare d9 ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yF x0 x1 x2 x3 x4 d9) ∗ owns (c : Thread nD τ) arg8 fullShare (k0_pay2 (stRows (tailF (k0_pay4 x0 x1) x2))) ∗ owns (c : Thread nD τ) arg9 fullShare (tailF (k0_pay4 x0 x1) x2) ∗ (∃ d, owns (c : Thread nD τ) arg10 fullShare d) ∗ (∃ d, owns (c : Thread nD τ) arg11 fullShare d)) -∗ K ⟨⟩))
      ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11) K := by
  simp only [cc0_ffn_prompt_eq_skeleton]; unfold cc0_ffn_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%f9, %hf9, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr; swap; · iexact H7
    ipureintro
    refine (View.read_writes_full _ _ _ _ _).trans ?_
    sl_unfold_run_values
    simp only [buf_write', read_x, read_g, read_colsW, read_cols3, read_cols8, read_rowsO]
    delta body_last.sl.H10_22 body_last.sl.H11_22
    simp only [cov6, cov7]
    delta body_last.sl.H10_20 body_last.sl.H11_20
    simp only [cov6, cov7]
    delta body_last.sl.H10_18 body_last.sl.H11_18
    simp only [cov6, cov7]
    delta body_last.sl.H10_16 body_last.sl.H11_16
    simp only [cov6, cov7]
    delta body_last.sl.H10_14 body_last.sl.H11_14
    simp only [cov6, cov7]
    delta body_last.sl.H10_12 body_last.sl.H11_12
    simp only [cov6, cov7]
    delta body_last.sl.H10_10 body_last.sl.H11_10
    simp only [cov6, cov7]
    delta body_last.sl.H10_8 body_last.sl.H11_8
    simp only [cov6, cov7]
    delta body_last.sl.H10_6 body_last.sl.H11_6
    simp only [cov6, cov7]
    delta body_last.sl.H10_4 body_last.sl.H11_4
    simp only [cov6, cov7]
    delta body_last.sl.H10_2 body_last.sl.H11_2
    simp only [cov6, cov7]
    sl_unfold_run_values
    simp only [buf_write', read_x, read_g, read_colsW, read_cols3, read_cols8, read_rowsO]
    simp only [yF, accF, uC, Nat.reduceMul, Nat.reduceAdd]
    simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, shapeCast_self]
  isplitl [H8]
  · iexists _; isplitr; swap; · iexact H8
    ipureintro
    refine (View.read_writes_full _ _ _ _ _).trans (congrArg k0_pay2 ?_)
    sl_unfold_run_values
    delta body_last.sl.H9_22
    sl_unfold_run_values
    simp only [buf_write', read_x, read_g, read_colsW, read_cols3, read_cols8, read_rowsO]
    simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, shapeCast_self]
    funext x
    unfold View.readCov stRows
    rw [View.readAt_apply]
    refine (congrFun (carry_read arg9 _ (fun k => last8 (uC (k0_pay4 x0 x1) x2 (256 * k))) _ _ _ _ _ _ _ _ _ _ _ _ _ _ _ _ _ _ _ _ _ _ _) _).trans ?_
    refine congrArg (tailF (k0_pay4 x0 x1) x2) (funext fun k => Fin.ext ?_)
    match k with
    | ⟨0, _⟩ => show 6 + 1 * (x 0).val = 6 + (x 0).val; omega
    | ⟨1, _⟩ => show 0 + 1 * (x 1).val = (x 1).val; omega
  isplitl [H9]
  · iexists _; isplitr; swap; · iexact H9
    ipureintro
    try delta body_last.sl.H9_22
    sl_unfold_run_values
    simp only [buf_write', read_x, read_g, read_colsW, read_cols3, read_cols8, read_rowsO]
    simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, shapeCast_self]
    exact carry_read arg9 _ (fun k => last8 (uC (k0_pay4 x0 x1) x2 (256 * k))) _ _ _ _ _ _ _ _ _ _ _ _ _ _ _ _ _ _ _ _ _ _ _
  isplitl [H10]
  · iexists _, _; isplitr; swap; · iexact H10
    ipureintro; rfl
  iexists _, _; isplitr; swap; · iexact H11
  ipureintro; rfl

end Cert.FfnIdeal.Ffn

end
-- ==== Proof.Ffn.Run.lean ====
/- The feed-forward kernel over its grid: what the carried rows and the output blocks hold after each tile, the body's
   obligation at every tile, the run of the whole program and its frame, at any float instance. -/
module

public import proofs.«01_k».proof.Proof.Ffn.BodyFirst
public import proofs.«01_k».proof.Proof.Ffn.BodyMid
public import proofs.«01_k».proof.Proof.Ffn.BodyLast

@[expose] public section

set_option maxRecDepth 16384

noncomputable section

namespace Cert.FfnIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile begins a sequence exactly at the points divisible by 8. -/
theorem hcond0 (t : Fin cfg0.N) : cond0 (grid0.coords t) ↔ t.val % 8 = 0 := by
  have ht : t.val < 32 := Nat.lt_of_lt_of_eq t.isLt N_0
  have e1 : (grid0.coords t 0).val = t.val / 1 % 32 := Pipeline.Grid.coords_val t 0 (by decide) rfl
  simp only [cond0, e1]
  rw [Nat.div_one, Nat.mod_eq_of_lt ht]
  generalize t.val = n at ht
  revert ht n
  exact (by decide +kernel)

/-- A tile ends a sequence exactly at the points with remainder 7 modulo 8. -/
theorem hcond2 (t : Fin cfg0.N) : k0_cond2 (grid0.coords t) = 1#1 ↔ t.val % 8 = 7 := by
  have ht : t.val < 32 := Nat.lt_of_lt_of_eq t.isLt N_0
  have e1 : (grid0.coords t 0).val = t.val / 1 % 32 := Pipeline.Grid.coords_val t 0 (by decide) rfl
  simp only [k0_cond2, e1]
  rw [Nat.div_one, Nat.mod_eq_of_lt ht]
  generalize t.val = n at ht
  revert ht n
  exact (by decide +kernel)

/-- What the carried rows hold after tile `t`. -/
def hOut (c : Dev nD) (t : Fin cfg0.N) : Vec F S8x5632 .f32 := tailF (k0_pay4 (iblk m c 0 t) (iblk m c 1 t)) (iblk m c 2 t)

/-- The carried rows after tile `n`, by the tile's number. -/
def hOutN (c : Dev nD) (n : ℕ) (hn : n < cfg0.N) : Vec F S8x5632 .f32 := hOut m c ⟨n, hn⟩

/-- The rows a tile starts from inside a sequence: what the tile before left. -/
def hPrev (c : Dev nD) (t : Fin cfg0.N) : Vec F S8x5632 .f32 :=
  hOutN m c (t.val - 1) (Nat.lt_of_le_of_lt (Nat.sub_le _ _) t.isLt)

/-- The rows a tile starts from: at a sequence's first tile rows 6 and 7 are the sequence's first state. -/
def hIn (c : Dev nD) (t : Fin cfg0.N) : Vec F S8x5632 .f32 :=
  if t.val % 8 = 0 then bufRows (iblk m c 5 t) (fun _ => Scalar.ofBits .f32 0#32) else hPrev m c t

/-- The block of the first result after tile `t`. -/
def yBlk (c : Dev nD) (t : Fin cfg0.N) : Vec F S512x1024 .f32 :=
  yF (iblk m c 0 t) (iblk m c 1 t) (iblk m c 2 t) (iblk m c 3 t) (iblk m c 4 t) (hIn m c t)

/-- The block of the second result after a sequence's last tile. -/
def lastBlk (c : Dev nD) (t : Fin cfg0.N) : Vec F S1x2x5632 .f32 := k0_pay2 (stRows (hOut m c t))

abbrev scM0_0 : Memref sig .tc .vmem S8x5632 .f32 := Memref.whole cc0_scratch0
abbrev scM0_1 : Memref sig .tc .vmem S520x256 .f32 := Memref.whole cc0_scratch1
abbrev scM0_2 : Memref sig .tc .vmem S520x256 .f32 := Memref.whole cc0_scratch2

/-- What the launch hands over beside the windows: the scratch buffers at some contents, and the generator register. -/
theorem PhiA_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Between tiles: before the first everything at some contents, later the carried state at what the tile before left. -/
def PhiS (c : Dev nD) : (n : ℕ) → n ≤ cfg0.N → sProp 𝕄
  | 0, _ => Pipeline.ΦA spec0 c
  | n + 1, hn => iprop(iprop(owns (c : Thread nD τ) scM0_0 fullShare (hOutN m c n hn) ∗ (∃ d, owns (c : Thread nD τ) scM0_1 fullShare d) ∗ (∃ d, owns (c : Thread nD τ) scM0_2 fullShare d)) ∗ (∃ r, prngReg c r))

theorem PhiS_pos (c : Dev nD) (n : ℕ) (h : n ≤ cfg0.N) (hz : n ≠ 0) :
    PhiS m c n h = iprop(iprop(owns (c : Thread nD τ) scM0_0 fullShare (hOutN m c (n - 1) (by omega)) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- At any position the carried state holds something. -/
theorem PhiS_any (c : Dev nD) (n : ℕ) (h : n ≤ cfg0.N) :
    PhiS m c n h ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  cases n with
  | zero => rw [← PhiA_eq]; exact Idealize.SL.BI.Entails.refl _
  | succ n =>
    unfold PhiS
    iintro ⟨⟨HS0, HS1, HS2⟩, Hg⟩
    isplitl [HS0 HS1 HS2]
    · isplitl [HS0]
      · iexists _; iexact HS0
      isplitl [HS1]
      · iexact HS1
      iexact HS2
    iexact Hg

/-- The proof data: the arrays as the region finds them, the inputs' blocks unchanged, the outputs' as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yBlk m c t
    | ⟨7, _⟩ => lastBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = yBlk m c t := by dsimp only [dats]
theorem after_7 (c : Dev nD) (t : Fin cfg0.N) : (dats m 0 c).after 7 t = lastBlk m c t := by dsimp only [dats]
theorem before_0 (c : Dev nD) (t : Fin cfg0.N) (d) : (dats m 0 c).before 0 t d = iblk m c 0 t :=
  before0_0_of m (dats m 0 c) (A_eq m c 0) (fun t => after_0 m c t) t d
theorem before_1 (c : Dev nD) (t : Fin cfg0.N) (d) : (dats m 0 c).before 1 t d = iblk m c 1 t :=
  before0_1_of m (dats m 0 c) (A_eq m c 1) (fun t => after_1 m c t) t d
theorem before_2 (c : Dev nD) (t : Fin cfg0.N) (d) : (dats m 0 c).before 2 t d = iblk m c 2 t :=
  before0_2_of m (dats m 0 c) (A_eq m c 2) (fun t => after_2 m c t) t d
theorem before_3 (c : Dev nD) (t : Fin cfg0.N) (d) : (dats m 0 c).before 3 t d = iblk m c 3 t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d
abbrev ms_0 (t : Fin cfg0.N) : Memref sig .tc .vmem S512x1024 .f32 := win0_0.stage (cfg0.slots t 0)
abbrev ms_1 (t : Fin cfg0.N) : Memref sig .tc .vmem S1x1024 .f32 := win0_1.stage (cfg0.slots t 1)
abbrev ms_2 (t : Fin cfg0.N) : Memref sig .tc .vmem S1024x5632 .bf16 := win0_2.stage (cfg0.slots t 2)
abbrev ms_3 (t : Fin cfg0.N) : Memref sig .tc .vmem S3x5632 .f32 := win0_3.stage (cfg0.slots t 3)
abbrev ms_4 (t : Fin cfg0.N) : Memref sig .tc .vmem S2816x1024 .bf16 := win0_4.stage (cfg0.slots t 4)
abbrev ms_5 (t : Fin cfg0.N) : Memref sig .tc .vmem S1x2x5632 .f32 := win0_5.stage (cfg0.slots t 5)
abbrev ms_6 (t : Fin cfg0.N) : Memref sig .tc .vmem S512x1024 .f32 := win0_6.stage (cfg0.slots t 6)
abbrev ms_7 (t : Fin cfg0.N) : Memref sig .tc .vmem S1x2x5632 .f32 := win0_7.stage (cfg0.slots t 7)
theorem leaves_0 (c : Dev nD) (t : Fin cfg0.N) : (dats m 0 c).leavesExact 0 t = owns (c : Thread nD τ) (ms_0 t) fullShare ((dats m 0 c).after 0 t) := by
  unfold Dat.leavesExact; rw [show cfg0.idle 0 (grid0.coords t) = false from rfl]
theorem leaves_1 (c : Dev nD) (t : Fin cfg0.N) : (dats m 0 c).leavesExact 1 t = owns (c : Thread nD τ) (ms_1 t) fullShare ((dats m 0 c).after 1 t) := by
  unfold Dat.leavesExact; rw [show cfg0.idle 1 (grid0.coords t) = false from rfl]
theorem leaves_2 (c : Dev nD) (t : Fin cfg0.N) : (dats m 0 c).leavesExact 2 t = owns (c : Thread nD τ) (ms_2 t) fullShare ((dats m 0 c).after 2 t) := by
  unfold Dat.leavesExact; rw [show cfg0.idle 2 (grid0.coords t) = false from rfl]
theorem leaves_3 (c : Dev nD) (t : Fin cfg0.N) : (dats m 0 c).leavesExact 3 t = owns (c : Thread nD τ) (ms_3 t) fullShare ((dats m 0 c).after 3 t) := by
  unfold Dat.leavesExact; rw [show cfg0.idle 3 (grid0.coords t) = false from rfl]
theorem leaves_4 (c : Dev nD) (t : Fin cfg0.N) : (dats m 0 c).leavesExact 4 t = owns (c : Thread nD τ) (ms_4 t) fullShare ((dats m 0 c).after 4 t) := by
  unfold Dat.leavesExact; rw [show cfg0.idle 4 (grid0.coords t) = false from rfl]
theorem leaves_5 (c : Dev nD) (t : Fin cfg0.N) : (dats m 0 c).leavesExact 5 t = owns (c : Thread nD τ) (ms_5 t) fullShare ((dats m 0 c).after 5 t) := by
  unfold Dat.leavesExact; rw [show cfg0.idle 5 (grid0.coords t) = false from rfl]
theorem leaves_6 (c : Dev nD) (t : Fin cfg0.N) : (dats m 0 c).leavesExact 6 t = owns (c : Thread nD τ) (ms_6 t) fullShare ((dats m 0 c).after 6 t) := by
  unfold Dat.leavesExact; rw [show cfg0.idle 6 (grid0.coords t) = false from rfl]
/-- The second result's buffer at a sequence's last tile. -/
theorem leaves_7_last (c : Dev nD) (t : Fin cfg0.N) (h : t.val % 8 = 7) :
    (dats m 0 c).leavesExact 7 t = owns (c : Thread nD τ) (ms_7 t) fullShare ((dats m 0 c).after 7 t) := by
  have hi : cfg0.idle 7 (grid0.coords t) = false := by
    show (!(k0_cond2 (grid0.coords t) == 1#1)) = false
    rw [(hcond2 t).mpr h]; rfl
  unfold Dat.leavesExact; rw [hi]

/-- At the other tiles it is handed back as it was found. -/
theorem leaves_7_idle (c : Dev nD) (t : Fin cfg0.N) (h : ¬t.val % 8 = 7) :
    (dats m 0 c).leavesExact 7 t = iprop(∃ d, owns (c : Thread nD τ) (ms_7 t) fullShare ((dats m 0 c).before 7 t d)) := by
  refine Dat.leavesExact_idle _ 7 t ?_ ?_
  · show (!(k0_cond2 (grid0.coords t) == 1#1)) = true
    have : ¬k0_cond2 (grid0.coords t) = 1#1 := fun e => h ((hcond2 t).mp e)
    simp only [Bool.not_eq_true', beq_eq_false_iff_ne]; exact this
  · exact Bool.eq_false_iff.mpr fun e => h ((flush0_7 t).mp e)

/-- What the body is handed at tile `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 800000 in
/-- The body at a sequence's first tile. -/
theorem sound_first (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0 m c t, leaves_1 m c t, leaves_2 m c t, leaves_3 m c t, leaves_4 m c t, leaves_5 m c t, leaves_6 m c t, leaves_7_idle m c t h1]
  rw [after_0 m c t, after_1 m c t, after_2 m c t, after_3 m c t, after_4 m c t, after_5 m c t, after_6 m c t]
  rw [PhiS_castSucc m c t]
  unfold yBlk
  rw [show PhiS m c (t.val + 1) t.isLt = iprop(iprop(owns (c : Thread nD τ) scM0_0 fullShare (hOutN m c t.val t.isLt) ∗ (∃ d, owns (c : Thread nD τ) scM0_1 fullShare d) ∗ (∃ d, owns (c : Thread nD τ) scM0_2 fullShare d)) ∗ (∃ r, prngReg c r)) from rfl]
  rw [show hOutN m c t.val t.isLt = tailF (k0_pay4 (iblk m c 0 t) (iblk m c 1 t)) (iblk m c 2 t) from rfl]
  rw [show hIn m c t = bufRows (iblk m c 5 t) (fun _ => Scalar.ofBits .f32 0#32) from if_pos h0]
  refine (sep_mono (PhiS_any m c t.val (Nat.le_of_lt t.isLt)) .rfl).trans ?_
  iintro ⟨⟨⟨⟨%ds, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [yF_bufRows (iblk m c 0 t) (iblk m c 1 t) (iblk m c 2 t) (iblk m c 3 t) (iblk m c 4 t) (iblk m c 5 t) (fun _ => Scalar.ofBits .f32 0#32) ds]
  iapply (body_first c (grid0.coords t) _ _ _ _ _ _ _ _ _ _ _ _ _ _ _ _ _ _ _ _ _ _ ((hcond0 t).mpr h0) (fun h => h1 ((hcond2 t).mp h)) (iblk m c 0 t) (iblk m c 1 t) (iblk m c 2 t) (iblk m c 3 t) (iblk m c 4 t) (iblk m c 5 t) ds _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 800000 in
/-- The body at a tile inside a sequence. -/
theorem sound_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0 m c t, leaves_1 m c t, leaves_2 m c t, leaves_3 m c t, leaves_4 m c t, leaves_5 m c t, leaves_6 m c t, leaves_7_idle m c t h1]
  rw [after_0 m c t, after_1 m c t, after_2 m c t, after_3 m c t, after_4 m c t, after_5 m c t, after_6 m c t]
  rw [PhiS_castSucc m c t]
  unfold yBlk
  rw [show PhiS m c (t.val + 1) t.isLt = iprop(iprop(owns (c : Thread nD τ) scM0_0 fullShare (hOutN m c t.val t.isLt) ∗ (∃ d, owns (c : Thread nD τ) scM0_1 fullShare d) ∗ (∃ d, owns (c : Thread nD τ) scM0_2 fullShare d)) ∗ (∃ r, prngReg c r)) from rfl]
  rw [show hOutN m c t.val t.isLt = tailF (k0_pay4 (iblk m c 0 t) (iblk m c 1 t)) (iblk m c 2 t) from rfl]
  rw [show hIn m c t = hOutN m c (t.val - 1) (Nat.lt_of_le_of_lt (Nat.sub_le _ _) t.isLt) from if_neg h0]
  rw [PhiS_pos m c t.val _ (fun h => h0 (by omega))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_mid c (grid0.coords t) _ _ _ _ _ _ _ _ _ _ _ _ _ _ _ _ _ _ _ _ _ _ (fun h => h0 ((hcond0 t).mp h)) (fun h => h1 ((hcond2 t).mp h)) (iblk m c 0 t) (iblk m c 1 t) (iblk m c 2 t) (iblk m c 3 t) (iblk m c 4 t) (iblk m c 5 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 800000 in
/-- The body at a sequence's last tile. -/
theorem sound_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0 m c t, leaves_1 m c t, leaves_2 m c t, leaves_3 m c t, leaves_4 m c t, leaves_5 m c t, leaves_6 m c t, leaves_7_last m c t h1]
  rw [after_0 m c t, after_1 m c t, after_2 m c t, after_3 m c t, after_4 m c t, after_5 m c t, after_6 m c t, after_7 m c t]
  rw [PhiS_castSucc m c t]
  unfold yBlk lastBlk hOut
  rw [show PhiS m c (t.val + 1) t.isLt = iprop(iprop(owns (c : Thread nD τ) scM0_0 fullShare (hOutN m c t.val t.isLt) ∗ (∃ d, owns (c : Thread nD τ) scM0_1 fullShare d) ∗ (∃ d, owns (c : Thread nD τ) scM0_2 fullShare d)) ∗ (∃ r, prngReg c r)) from rfl]
  rw [show hOutN m c t.val t.isLt = tailF (k0_pay4 (iblk m c 0 t) (iblk m c 1 t)) (iblk m c 2 t) from rfl]
  rw [show hIn m c t = hOutN m c (t.val - 1) (Nat.lt_of_le_of_lt (Nat.sub_le _ _) t.isLt) from if_neg h0]
  rw [PhiS_pos m c t.val _ (fun h => h0 (by omega))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_last c (grid0.coords t) _ _ _ _ _ _ _ _ _ _ _ _ _ _ _ _ _ _ _ _ _ _ (fun h => h0 ((hcond0 t).mp h)) ((hcond2 t).mpr h1) (iblk m c 0 t) (iblk m c 1 t) (iblk m c 2 t) (iblk m c 3 t) (iblk m c 4 t) (iblk m c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any tile. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0 (by omega)
  · by_cases h1 : t.val % 8 = 7
    · exact sound_last m c t h0 h1
    · exact sound_mid m c t h0 h1

theorem defs₀_row (t : Fin cfg0.N) :
    defs₀ (F := F) .tc cfg0.body (cfg0.bodyArgs t (cfg0.slots t)) = bodyAt0 t := by
  unfold defs₀; rw [Defs.onTc_tc]

/-- The obligation at every tile. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  exact PhiS_any m c _ _

set_option backward.isDefEq.respectTransparency.types false in
/-- The launch: every run ends with the arrays as the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run alone. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.FfnIdeal.Ffn

end
-- ==== Proof.Ffn.Ref.lean ====
/- The reference's feed-forward block as named pure terms: the normalised rows, the activations with the rows before
   them, the convolution and the result; and each term entry by entry over the reals. -/
module

public import proofs.«01_k».proof.Proof.Gen.FfnReferenceIdeal.Run
public import Idealize.ShloMosaic.Lib.Pointwise
public import Idealize.ShloMosaic.Lib.Claim

@[expose] public section

set_option maxRecDepth 16384

noncomputable section

namespace Cert.FfnReferenceIdeal.Ffn

open Idealize.ShloMosaic Idealize.ShloMosaic.TcCoe Idealize.SL.Sem
open Cert.FfnReferenceIdeal Cert.FfnReferenceIdeal.Gen

section Terms

variable {F : FTy → Type} [FloatOps F]

/-- The normalised rows. -/
def hR (x : FVec F S4x4096x1024 .f32) (g : FVec F S1024 .f32) : FVec F S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The activations, two rows of state before them. -/
def upR (h : FVec F S4x4096x1024 .f32) (w : FVec F S1024x5632 .f32) (b : FVec F S4x2x5632 .f32) : FVec F S4x4098x5632 .f32 :=
  concatenate S4x4098x5632 1 [⟨S4x2x5632, b⟩, ⟨S4x4096x5632, (Host.dotGeneral dot_S4x4096x1024_S1024x5632_S4x4096x5632_2_0_01_1_n_n none h w)⟩] concatenates_S4x2x5632_S4x4096x5632_S4x4098x5632_d1

/-- The three-tap convolution along the positions. -/
def cvR (u : FVec F S4x4098x5632 .f32) (cw : FVec F S3x5632 .f32) : FVec F S4x4096x5632 .f32 :=
  addf (addf (mulf (extractStridedSlice S4x4096x5632 ![0, 0, 0] u slices_S4x4098x5632_S4x4096x5632_0_0_0) (broadcastInDim S4x4096x5632 ![0, 1, 2] bcast_S1x1x5632_S4x4096x5632_0_1_2 (broadcastInDim S1x1x5632 ![2] bcast_S5632_S1x1x5632_2 (shapeCast _ (extractStridedSlice S1x5632 ![0, 0] cw slices_S3x5632_S1x5632_0_0) shapeCasts_S1x5632_S5632)))) (mulf (extractStridedSlice S4x4096x5632 ![0, 1, 0] u slices_S4x4098x5632_S4x4096x5632_0_1_0) (broadcastInDim S4x4096x5632 ![0, 1, 2] bcast_S1x1x5632_S4x4096x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S4x4096x5632 ![0, 2, 0] u slices_S4x4098x5632_S4x4096x5632_0_2_0) (broadcastInDim S4x4096x5632 ![0, 1, 2] bcast_S1x1x5632_S4x4096x5632_0_1_2 (broadcastInDim S1x1x5632 ![2] bcast_S5632_S1x1x5632_2 (shapeCast _ (extractStridedSlice S1x5632 ![2, 0] cw slices_S3x5632_S1x5632_2_0) shapeCasts_S1x5632_S5632))))

/-- The gated hidden values. -/
def gtR (v : FVec F S4x4096x5632 .f32) : FVec F S4x4096x2816 .f32 :=
  mulf (extractStridedSlice S4x4096x2816 ![0, 0, 0] v slices_S4x4096x5632_S4x4096x2816_0_0_0) (mulf (extractStridedSlice S4x4096x2816 ![0, 0, 2816] v slices_S4x4096x5632_S4x4096x2816_0_0_2816) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 2816] v slices_S4x4096x5632_S4x4096x2816_0_0_2816))))))

/-- The first result. -/
def yR (x : FVec F S4x4096x1024 .f32) (v : FVec F S4x4096x2816 .f32) (wo : FVec F S2816x1024 .f32) : FVec F S16384x1024 .f32 :=
  shapeCast _ (addf x (Host.dotGeneral dot_S4x4096x2816_S2816x1024_S4x4096x1024_2_0_01_1_n_n none v wo)) shapeCasts_S4x4096x1024_S16384x1024

/-- The second result: the last two rows. -/
def stR (u : FVec F S4x4098x5632 .f32) : FVec F S4x2x5632 .f32 :=
  extractStridedSlice S4x2x5632 ![0, 4096, 0] u slices_S4x4098x5632_S4x2x5632_0_4096_0

variable (m : (ℓ : Loc nD τ sig) → Buf (Elt F) ℓ)

/-- The activations of the launch contents. -/
abbrev upM (c : Dev nD) : FVec F S4x4098x5632 .f32 :=
  upR (hR (m ((c.tc : Thread nD τ).loc main_arg0)) (m ((c.tc : Thread nD τ).loc main_arg1))) (m ((c.tc : Thread nD τ).loc main_arg2)) (m ((c.tc : Thread nD τ).loc main_arg5))

/-- The generated term of the first result is the named one. -/
theorem res_y (c : Dev nD) : Value.res_out0 m c
    = yR (m ((c.tc : Thread nD τ).loc main_arg0)) (gtR (cvR (upM m c) (m ((c.tc : Thread nD τ).loc main_arg3)))) (m ((c.tc : Thread nD τ).loc main_arg4)) := by
  unfold Value.res_out0 Value.res_main_v41 yR gtR cvR upM upR hR
  rfl

/-- The reference's run: its results are the named terms, its arguments unchanged. -/
theorem run_terms (ρ : Dev nD → PrngReg) : θ_run defs (onTc (τ := τ) (main (F := F))) ⟨m, fun _ => 0, ρ⟩ fun r => ∀ c : Dev nD,
      r.2.mem ((c.tc : Thread nD τ).loc main_v41) = yR (m ((c.tc : Thread nD τ).loc main_arg0)) (gtR (cvR (upM m c) (m ((c.tc : Thread nD τ).loc main_arg3)))) (m ((c.tc : Thread nD τ).loc main_arg4))
      ∧ r.2.mem ((c.tc : Thread nD τ).loc main_v42) = stR (upM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res_y m c), (h c).2.1.trans rfl, (h c).2.2⟩) (Value.run m ρ)

end Terms

/-- The normalised rows, entry by entry. -/
theorem hR_at (x : FVec Ideal S4x4096x1024 .f32) (g : FVec Ideal S1024 .f32) (b : Fin 4) (p : Fin 4096) (d : Fin 1024) :
    hR x g (ix3 b p d) = x (ix3 b p d) * Ideal.rsqrt (Ideal.div (∑ k : Fin 1024, x (ix3 b p k) * x (ix3 b p k)) (Ideal.ofBits FTy.f32 0x44800000#32) + Ideal.ofBits FTy.f32 0x358637BD#32) * g (ix1 d) := by
  pointwise [hR]

/-- The rows of state come first. -/
theorem upR_lo (h : FVec Ideal S4x4096x1024 .f32) (w : FVec Ideal S1024x5632 .f32) (s : FVec Ideal S4x2x5632 .f32) (b : Fin 4) (p : Fin 4098) (hp : p.val < 2) (j : Fin 5632) :
    upR h w s (ix3 b p j) = s (ix3 b ⟨p.val, hp⟩ j) := by
  pointwise [upR]
  rw [dif_pos hp]

/-- Then the activations: a row of the normalised times the first matrix. -/
theorem upR_hi (h : FVec Ideal S4x4096x1024 .f32) (w : FVec Ideal S1024x5632 .f32) (s : FVec Ideal S4x2x5632 .f32) (b : Fin 4) (p : Fin 4096) (j : Fin 5632) :
    upR h w s (ix3 b ⟨p.val + 2, by omega⟩ j) = ∑ d : Fin 1024, h (ix3 b p d) * w (ix2 d j) := by
  pointwise [upR]
  rw [dif_neg (by omega)]
  rfl

/-- The convolution, entry by entry. -/
theorem cvR_at (u : FVec Ideal S4x4098x5632 .f32) (cw : FVec Ideal S3x5632 .f32) (b : Fin 4) (p : Fin 4096) (j : Fin 5632) :
    cvR u cw (ix3 b p j) = u (ix3 b ⟨p.val, by omega⟩ j) * cw (ix2 0 j) + u (ix3 b ⟨1 + p.val, by omega⟩ j) * cw (ix2 1 j) + u (ix3 b ⟨2 + p.val, by omega⟩ j) * cw (ix2 2 j) := by
  pointwise [cvR]

/-- The gated hidden values, entry by entry. -/
theorem gtR_at (v : FVec Ideal S4x4096x5632 .f32) (b : Fin 4) (p : Fin 4096) (k : Fin 2816) :
    gtR v (ix3 b p k) = v (ix3 b p ⟨k.val, by omega⟩) * (v (ix3 b p ⟨2816 + k.val, by omega⟩) * Ideal.logistic (v (ix3 b p ⟨2816 + k.val, by omega⟩))) := by
  pointwise [gtR]
  rfl

/-- The first result, entry by entry. -/
theorem yR_at (x : FVec Ideal S4x4096x1024 .f32) (v : FVec Ideal S4x4096x2816 .f32) (wo : FVec Ideal S2816x1024 .f32) (R : Fin 16384) (e : Fin 1024) :
    yR x v wo (ix2 R e) = x (ix3 ⟨R.val / 4096, by omega⟩ ⟨R.val % 4096, by omega⟩ e)
      + ∑ k : Fin 2816, v (ix3 ⟨R.val / 4096, by omega⟩ ⟨R.val % 4096, by omega⟩ k) * wo (ix2 k e) := by
  pointwise [yR]

/-- The second result, entry by entry. -/
theorem stR_at (u : FVec Ideal S4x4098x5632 .f32) (b : Fin 4) (p : Fin 2) (j : Fin 5632) :
    stR u (ix3 b p j) = u (ix3 b ⟨4096 + p.val, by omega⟩ j) := by
  pointwise [stR]

end Cert.FfnReferenceIdeal.Ffn

end
-- ==== Proof.Ffn.Core.lean ====
/- The feed-forward kernel's body over the reals, entry by entry. -/
module

public import proofs.«01_k».proof.Proof.Ffn.Rows
public import proofs.«01_k».proof.Proof.Ffn.Ref

@[expose] public section

set_option maxRecDepth 16384

noncomputable section

namespace Cert.FfnIdeal.Ffn

open Idealize.ShloMosaic Idealize.ShloMosaic.TcCoe
open Cert.FfnIdeal Cert.FfnIdeal.Gen
open Cert.FfnReferenceIdeal.Ffn (cvR cvR_at gtR gtR_at)

/-- A shape cast to the same shape. -/
theorem pay3_at (x : Vec Ideal S512x1024 .f32) (r : Fin 512) (d : Fin 1024) : k0_pay3 x (ix2 r d) = x (ix2 r d) := by
  pointwise [k0_pay3]

/-- The normalised rows of a tile. -/
theorem pay4_at (x : Vec Ideal S512x1024 .f32) (g : Vec Ideal S1x1024 .f32) (r : Fin 512) (d : Fin 1024) :
    k0_pay4 x g (ix2 r d) = x (ix2 r d) * Ideal.rsqrt (Ideal.div (∑ k : Fin 1024, x (ix2 r k) * x (ix2 r k)) (Ideal.ofBits FTy.f32 0x44800000#32) + Ideal.ofBits FTy.f32 0x358637BD#32) * g (ix2 0 d) := by
  pointwise [k0_pay4, k0_pay3]

/-- The first state as the kernel loads it. -/
theorem pay5_at (b : Vec Ideal S1x2x5632 .f32) (r : Fin 2) (j : Fin 5632) : k0_pay5 b (ix2 r j) = b (ix3 0 r j) := by
  pointwise [k0_pay5]

/-- The last state as the kernel stores it. -/
theorem pay2_at (v : Vec Ideal S2x5632 .f32) (r : Fin 2) (j : Fin 5632) : k0_pay2 v (ix3 0 r j) = v (ix2 r j) := by
  pointwise [k0_pay2]

/-- The sum starts at zero. -/
theorem pay6_at (r : Fin 512) (d : Fin 1024) : k0_pay6 (F := Ideal) (ix2 r d) = 0 := by
  pointwise [k0_pay6]

/-- The activations of a chunk: a row times the chunk's columns. -/
theorem uC_at (xn : Vec Ideal S512x1024 .bf16) (W : Vec Ideal S1024x5632 .bf16) (n : ℕ) (r : Fin 512) (j : Fin 256) :
    uC xn W n (ix2 r j) = ∑ d : Fin 1024, xn (ix2 r d) * W (ix2 d (⟨(n + j.val) % 5632, Nat.mod_lt _ (by decide)⟩ : Fin 5632)) := by
  pointwise [uC, colsW]

/-- The last eight rows of a chunk. -/
theorem last8_at (U : Vec Ideal S512x256 .f32) (k : Fin 8) (j : Fin 256) : last8 U (ix2 k j) = U (ix2 ⟨504 + k.val, by omega⟩ j) := by
  pointwise [last8]

/-- The convolution of a chunk. -/
theorem pay11_at (u : FVec Ideal S512x256 .f32) (cw : Vec Ideal S3x256 .f32) (s2 s1 : Vec Ideal S512x256 .f32) (r : Fin 512) (j : Fin 256) :
    k0_pay11 u cw s2 s1 (ix2 r j) = s2 (ix2 r j) * cw (ix2 0 j) + s1 (ix2 r j) * cw (ix2 1 j) + u (ix2 r j) * cw (ix2 2 j) := by
  pointwise [k0_pay11]

/-- One chunk's addition to the product. -/
theorem pay17_at (a : FVec Ideal S512x1024 .f32) (v u : FVec Ideal S512x256 .f32) (cw : Vec Ideal S3x256 .f32) (s2 s1 : Vec Ideal S512x256 .f32) (wo : Vec Ideal S256x1024 .bf16) (r : Fin 512) (e : Fin 1024) :
    k0_pay17 a v u cw s2 s1 wo (ix2 r e) = a (ix2 r e) + ∑ j : Fin 256, v (ix2 r j) * (k0_pay11 u cw s2 s1 (ix2 r j) * Ideal.logistic (k0_pay11 u cw s2 s1 (ix2 r j))) * wo (ix2 j e) := by
  pointwise [k0_pay17, k0_pay11]

section Tile

variable (xn : Vec Ideal S512x1024 .bf16) (W : Vec Ideal S1024x5632 .bf16) (cw : Vec Ideal S3x5632 .f32) (wo : Vec Ideal S2816x1024 .bf16) (d : Vec Ideal S8x5632 .f32)
  (U : FVec Ideal Cert.FfnReferenceIdeal.S4x4098x5632 .f32) (CW : FVec Ideal Cert.FfnReferenceIdeal.S3x5632 .f32) (WO : FVec Ideal Cert.FfnReferenceIdeal.S2816x1024 .f32)
  (b : Fin 4) (P : ℕ) (hP : P + 512 ≤ 4096)
  (hU : ∀ (r : Fin 512) (j : Fin 5632) (q : Fin 4098), q.val = P + r.val + 2 → ∑ k : Fin 1024, xn (ix2 r k) * W (ix2 k j) = U (ix3 b q j))

include hU in
/-- A chunk of a tile's activations is the reference's, two positions on. -/
theorem uC_U (n : ℕ) (hn : n + 256 ≤ 5632) (r : Fin 512) (j : Fin 256) :
    uC xn W n (ix2 r j) = U (ix3 b ⟨P + r.val + 2, by omega⟩ ⟨n + j.val, by omega⟩) := by
  rw [uC_at]
  have e : (⟨(n + j.val) % 5632, Nat.mod_lt _ (by decide)⟩ : Fin 5632) = ⟨n + j.val, by omega⟩ := Fin.ext (Nat.mod_eq_of_lt (by omega))
  rw [e]
  exact hU r _ _ rfl

include hU in
/-- The last eight rows of a tile's activations. -/
theorem tailF_U (k : Fin 8) (j : Fin 5632) :
    tailF xn W (ix2 k j) = U (ix3 b ⟨P + 506 + k.val, by omega⟩ j) := by
  have h : tailF xn W (ix2 k j) = last8 (uC xn W (256 * (j.val / 256))) (ix2 k (⟨j.val % 256, Nat.mod_lt _ (by decide)⟩ : Fin 256)) := rfl
  rw [h, last8_at, uC_U xn W U b P hP hU _ (by omega)]
  refine congrArg U ?_
  refine congrArg₂ (ix3 b) (Fin.ext ?_) (Fin.ext ?_)
  · show P + (504 + k.val) + 2 = P + 506 + k.val; omega
  · show 256 * (j.val / 256) + j.val % 256 = j.val; omega

variable (hd : ∀ (i : Fin 2) (j : Fin 5632) (k : Fin 8) (q : Fin 4098), k.val = 6 + i.val → q.val = P + i.val → d (ix2 k j) = U (ix3 b q j))

include hU hd in
/-- The rows two before are the reference's. -/
theorem sh2_U (n : ℕ) (hn : n + 256 ≤ 5632) (r : Fin 512) (j : Fin 256) :
    sh2 (cols8 d n) (uC xn W n) (ix2 r j) = U (ix3 b ⟨P + r.val, by omega⟩ ⟨n + j.val, by omega⟩) := by
  by_cases h : r.val < 2
  · have e : sh2 (cols8 d n) (uC xn W n) (ix2 r j) = d (ix2 (⟨6 + r.val, by omega⟩ : Fin 8) (⟨(n + j.val) % 5632, Nat.mod_lt _ (by decide)⟩ : Fin 5632)) := dif_pos h
    rw [e]
    have e' : (⟨(n + j.val) % 5632, Nat.mod_lt _ (by decide)⟩ : Fin 5632) = ⟨n + j.val, by omega⟩ := Fin.ext (Nat.mod_eq_of_lt (by omega))
    rw [e']
    exact hd ⟨r.val, h⟩ _ _ _ rfl rfl
  · have e : sh2 (cols8 d n) (uC xn W n) (ix2 r j) = uC xn W n (ix2 (⟨r.val - 2, by omega⟩ : Fin 512) j) := dif_neg h
    rw [e, uC_U xn W U b P hP hU n hn]
    refine congrArg U ?_
    refine congrArg₂ (ix3 b) (Fin.ext ?_) rfl
    show P + (r.val - 2) + 2 = P + r.val; omega

include hU hd in
/-- The rows one before are the reference's. -/
theorem sh1_U (n : ℕ) (hn : n + 256 ≤ 5632) (r : Fin 512) (j : Fin 256) :
    sh1 (cols8 d n) (uC xn W n) (ix2 r j) = U (ix3 b ⟨1 + (P + r.val), by omega⟩ ⟨n + j.val, by omega⟩) := by
  by_cases h : r.val < 1
  · have e : sh1 (cols8 d n) (uC xn W n) (ix2 r j) = d (ix2 (⟨7 + r.val, by omega⟩ : Fin 8) (⟨(n + j.val) % 5632, Nat.mod_lt _ (by decide)⟩ : Fin 5632)) := dif_pos h
    rw [e]
    have e' : (⟨(n + j.val) % 5632, Nat.mod_lt _ (by decide)⟩ : Fin 5632) = ⟨n + j.val, by omega⟩ := Fin.ext (Nat.mod_eq_of_lt (by omega))
    rw [e']
    exact hd 1 _ _ _ (by show 7 + r.val = 7; omega) (by show 1 + (P + r.val) = P + 1; omega)
  · have e : sh1 (cols8 d n) (uC xn W n) (ix2 r j) = uC xn W n (ix2 (⟨r.val - 1, by omega⟩ : Fin 512) j) := dif_neg h
    rw [e, uC_U xn W U b P hP hU n hn]
    refine congrArg U ?_
    refine congrArg₂ (ix3 b) (Fin.ext ?_) rfl
    show P + (r.val - 1) + 2 = 1 + (P + r.val); omega

variable (hcw : ∀ (k : Fin 3) (j : Fin 5632), cw (ix2 k j) = CW (ix2 k j)) (hwo : ∀ (k : Fin 2816) (e : Fin 1024), wo (ix2 k e) = WO (ix2 k e))

include hcw in
/-- A chunk of the taps is the reference's. -/
theorem cols3_U (n : ℕ) (hn : n + 256 ≤ 5632) (k : Fin 3) (j : Fin 256) : cols3 cw n (ix2 k j) = CW (ix2 k ⟨n + j.val, by omega⟩) := by
  have e' : (⟨(n + j.val) % 5632, Nat.mod_lt _ (by decide)⟩ : Fin 5632) = ⟨n + j.val, by omega⟩ := Fin.ext (Nat.mod_eq_of_lt (by omega))
  have e : cols3 cw n (ix2 k j) = cw (ix2 k (⟨(n + j.val) % 5632, Nat.mod_lt _ (by decide)⟩ : Fin 5632)) := rfl
  rw [e, e', hcw]

include hU hd hcw in
/-- A chunk's convolution is the reference's. -/
theorem conv_U (n : ℕ) (hn : n + 256 ≤ 5632) (r : Fin 512) (j : Fin 256) :
    k0_pay11 (uC xn W n) (cols3 cw n) (sh2 (cols8 d n) (uC xn W n)) (sh1 (cols8 d n) (uC xn W n)) (ix2 r j)
      = cvR U CW (ix3 b ⟨P + r.val, by omega⟩ ⟨n + j.val, by omega⟩) := by
  rw [pay11_at, cvR_at, uC_U xn W U b P hP hU n hn, sh2_U xn W d U b P hP hU hd n hn, sh1_U xn W d U b P hP hU hd n hn,
    cols3_U cw CW P hcw n hn, cols3_U cw CW P hcw n hn, cols3_U cw CW P hcw n hn]
  have e : (⟨P + r.val + 2, by omega⟩ : Fin 4098) = ⟨2 + (P + r.val), by omega⟩ := Fin.ext (Nat.add_comm _ _)
  rw [e]

/-- One term of the second product, by the hidden column's number. -/
def term (V : FVec Ideal Cert.FfnReferenceIdeal.S4x4096x2816 .f32) (WO : FVec Ideal Cert.FfnReferenceIdeal.S2816x1024 .f32) (b : Fin 4) (p : Fin 4096) (e : Fin 1024) (k : ℕ) : EReal :=
  if h : k < 2816 then V (ix3 b p ⟨k, h⟩) * WO (ix2 ⟨k, h⟩ e) else 0

include hU hd hcw hwo in
/-- The accumulated product after `n` chunks. -/
theorem accF_U (r : Fin 512) (e : Fin 1024) (n : ℕ) (hn : n ≤ 11) :
    accF xn W cw wo d n (ix2 r e) = ∑ i ∈ Finset.range n, ∑ j : Fin 256, term (gtR (cvR U CW)) WO b ⟨P + r.val, by omega⟩ e (i * 256 + j.val) := by
  induction n with
  | zero => exact pay6_at r e
  | succ n ih =>
    rw [accF, pay17_at, ih (by omega), Finset.sum_range_succ]
    refine congrArg _ (Finset.sum_congr rfl fun j _ => ?_)
    rw [conv_U xn W cw d U CW b P hP hU hd hcw (256 * n) (by omega), conv_U xn W cw d U CW b P hP hU hd hcw (2816 + 256 * n) (by omega)]
    unfold term
    rw [dif_pos (by omega), gtR_at]
    have e1 : rowsO wo (256 * n) (ix2 j e) = WO (ix2 (⟨n * 256 + j.val, by omega⟩ : Fin 2816) e) := by
      have e2 : rowsO wo (256 * n) (ix2 j e) = wo (ix2 (⟨(256 * n + j.val) % 2816, Nat.mod_lt _ (by decide)⟩ : Fin 2816) e) := rfl
      have e3 : (⟨(256 * n + j.val) % 2816, Nat.mod_lt _ (by decide)⟩ : Fin 2816) = ⟨n * 256 + j.val, by omega⟩ := Fin.ext (by show (256 * n + j.val) % 2816 = n * 256 + j.val; omega)
      rw [e2, e3, hwo]
    rw [e1]
    have e4 : (⟨256 * n + j.val, by omega⟩ : Fin 5632) = ⟨n * 256 + j.val, by omega⟩ := Fin.ext (by show 256 * n + j.val = n * 256 + j.val; omega)
    have e5 : (⟨2816 + 256 * n + j.val, by omega⟩ : Fin 5632) = ⟨2816 + (n * 256 + j.val), by omega⟩ := Fin.ext (by show 2816 + 256 * n + j.val = 2816 + (n * 256 + j.val); omega)
    rw [e4, e5]

include hU hd hcw hwo in
/-- The accumulated product after all chunks is the reference's. -/
theorem accF_ref (r : Fin 512) (e : Fin 1024) :
    accF xn W cw wo d 11 (ix2 r e) = ∑ k : Fin 2816, gtR (cvR U CW) (ix3 b ⟨P + r.val, by omega⟩ k) * WO (ix2 k e) := by
  rw [accF_U xn W cw wo d U CW WO b P hP hU hd hcw hwo r e 11 le_rfl, Fin.sum_univ_tiles 11 256 rfl, Finset.sum_range]
  refine Finset.sum_congr rfl fun i _ => Finset.sum_congr rfl fun j _ => ?_
  unfold term
  rw [dif_pos (by omega)]

end Tile

end Cert.FfnIdeal.Ffn

end
-- ==== Proof.Ffn.Reads.lean ====
/- The feed-forward kernel's input blocks as entries of its arguments. -/
module

public import proofs.«01_k».proof.Proof.Ffn.Run
public import proofs.«01_k».proof.Proof.Ffn.Core
public import Idealize.ShloMosaic.Lib.Pipeline.ValueKit

@[expose] public section

set_option maxRecDepth 16384

noncomputable section

namespace Cert.FfnIdeal.Ffn

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- Every window's block index at tile `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val / 8, 0, 0]
    ∧ win0_6.index t = ![t.val, 0] ∧ win0_7.index t = ![t.val / 8, 0, 0] :=
  (by decide +kernel : ∀ t : Fin grid0.N, _)

/-- The sequence a tile belongs to. -/
abbrev sq (t : Fin cfg0.N) : Fin 4 := ⟨t.val / 8, by have := Nat.lt_of_lt_of_eq t.isLt N_0; omega⟩
/-- The position in its sequence of row `r` of a tile. -/
abbrev ps (t : Fin cfg0.N) (r : Fin 512) : Fin 4096 := ⟨t.val % 8 * 512 + r.val, by omega⟩

/-- The tile's rows of the first argument. -/
theorem blk_x (c : Dev nD) (t : Fin cfg0.N) (r : Fin 512) (d : Fin 1024) :
    iblk m c 0 t (ix2 r d) = m ((c : Thread nD τ).loc main_arg0) (ix3 (sq t) (ps t r) d) := by
  have ht := Nat.lt_of_lt_of_eq t.isLt N_0
  blk_simp [iblk]
  entry_read
  pointwise
  blk_ext [idx t]

/-- The scale row. -/
theorem blk_g (c : Dev nD) (t : Fin cfg0.N) (d : Fin 1024) :
    iblk m c 1 t (ix2 0 d) = m ((c : Thread nD τ).loc main_arg1) (ix1 d) := by
  blk_simp [iblk]
  entry_read
  pointwise
  blk_ext [idx t]

/-- The first matrix. -/
theorem blk_w (c : Dev nD) (t : Fin cfg0.N) (k : Fin 1024) (d : Fin 5632) :
    iblk m c 2 t (ix2 k d) = m ((c : Thread nD τ).loc main_arg2) (ix2 k d) := by
  blk_simp [iblk]
  entry_read
  pointwise
  blk_ext [idx t]

/-- The taps. -/
theorem blk_c (c : Dev nD) (t : Fin cfg0.N) (k : Fin 3) (d : Fin 5632) :
    iblk m c 3 t (ix2 k d) = m ((c : Thread nD τ).loc main_arg3) (ix2 k d) := by
  blk_simp [iblk]
  entry_read
  pointwise
  blk_ext [idx t]

/-- The second matrix. -/
theorem blk_o (c : Dev nD) (t : Fin cfg0.N) (k : Fin 2816) (d : Fin 1024) :
    iblk m c 4 t (ix2 k d) = m ((c : Thread nD τ).loc main_arg4) (ix2 k d) := by
  blk_simp [iblk]
  entry_read
  pointwise
  blk_ext [idx t]

/-- The sequence's first state. -/
theorem blk_b (c : Dev nD) (t : Fin cfg0.N) (r : Fin 2) (d : Fin 5632) :
    iblk m c 5 t (ix3 0 r d) = m ((c : Thread nD τ).loc main_arg5) (ix3 (sq t) r d) := by
  have ht := Nat.lt_of_lt_of_eq t.isLt N_0
  blk_simp [iblk]
  entry_read
  pointwise
  blk_ext [idx t]

end Cert.FfnIdeal.Ffn

end
-- ==== Proof.Ffn.Value.lean ====
/- The feed-forward kernel's two results over the reals: the reference's. -/
module

public import proofs.«01_k».proof.Proof.Ffn.Reads

@[expose] public section

set_option maxRecDepth 16384

noncomputable section

namespace Cert.FfnIdeal.Ffn

open Idealize.ShloMosaic Idealize.ShloMosaic.TcCoe Idealize.SL.Sem
open Idealize.ShloMosaic.Pipeline (Dat)
open Cert.FfnIdeal Cert.FfnIdeal.Gen
open Cert.FfnReferenceIdeal.Ffn (hR hR_at upR upR_lo upR_hi cvR gtR yR yR_at stR stR_at)

variable (m : (ℓ : Loc nD τ sig) → Buf (Elt Ideal) ℓ)

/-- The reference's activations over the kernel's arguments. -/
abbrev upK (c : Dev nD) : FVec Ideal Cert.FfnReferenceIdeal.S4x4098x5632 .f32 :=
  upR (hR (m ((c : Thread nD τ).loc main_arg0)) (m ((c : Thread nD τ).loc main_arg1))) (m ((c : Thread nD τ).loc main_arg2)) (m ((c : Thread nD τ).loc main_arg5))

/-- The reference's gated hidden values over the kernel's arguments. -/
abbrev gtK (c : Dev nD) : FVec Ideal Cert.FfnReferenceIdeal.S4x4096x2816 .f32 :=
  gtR (cvR (upK m c) (m ((c : Thread nD τ).loc main_arg3)))

/-- The first result's reference term. -/
abbrev REF (c : Dev nD) : FVec Ideal Cert.FfnReferenceIdeal.S16384x1024 .f32 :=
  yR (m ((c : Thread nD τ).loc main_arg0)) (gtK m c) (m ((c : Thread nD τ).loc main_arg4))

/-- A normalised entry of a tile is the reference's once the tile holds its operands' entries. -/
theorem norm_core (X : Vec Ideal S512x1024 .f32) (G : Vec Ideal S1x1024 .f32) (x : FVec Ideal Cert.FfnReferenceIdeal.S4x4096x1024 .f32) (g : FVec Ideal Cert.FfnReferenceIdeal.S1024 .f32)
    (b : Fin 4) (p : Fin 4096) (r : Fin 512) (hx : ∀ k : Fin 1024, X (ix2 r k) = x (ix3 b p k)) (hg : ∀ k : Fin 1024, G (ix2 0 k) = g (ix1 k)) (d : Fin 1024) :
    k0_pay4 X G (ix2 r d) = hR x g (ix3 b p d) := by
  rw [pay4_at, hR_at]
  simp only [hx, hg]

/-- The activations of a tile's row are the reference's. -/
theorem act_core (xn : Vec Ideal S512x1024 .bf16) (W : Vec Ideal S1024x5632 .bf16) (h : FVec Ideal Cert.FfnReferenceIdeal.S4x4096x1024 .f32) (w : FVec Ideal Cert.FfnReferenceIdeal.S1024x5632 .f32)
    (s : FVec Ideal Cert.FfnReferenceIdeal.S4x2x5632 .f32) (b : Fin 4) (p : Fin 4096) (r : Fin 512)
    (hx : ∀ k : Fin 1024, xn (ix2 r k) = h (ix3 b p k)) (hw : ∀ (k : Fin 1024) (j : Fin 5632), W (ix2 k j) = w (ix2 k j)) (j : Fin 5632) :
    ∑ k : Fin 1024, xn (ix2 r k) * W (ix2 k j) = upR h w s (ix3 b ⟨p.val + 2, by omega⟩ j) := by
  rw [upR_hi]
  exact Finset.sum_congr rfl fun k _ => by rw [hx, hw]

/-- The activations of a tile are the reference's. -/
theorem act (c : Dev nD) (t : Fin cfg0.N) (r : Fin 512) (j : Fin 5632) :
    ∑ k : Fin 1024, k0_pay4 (iblk m c 0 t) (iblk m c 1 t) (ix2 r k) * iblk m c 2 t (ix2 k j)
      = upK m c (ix3 (sq t) ⟨t.val % 8 * 512 + r.val + 2, by omega⟩ j) :=
  act_core _ _ _ _ _ (sq t) (ps t r) r (fun k => norm_core _ _ _ _ (sq t) (ps t r) r (fun k => blk_x m c t r k) (fun k => blk_g m c t k) k) (fun k j => blk_w m c t k j) j

/-- The activations of a tile, at a position given by its number. -/
theorem act' (c : Dev nD) (t : Fin cfg0.N) (r : Fin 512) (j : Fin 5632) (q : Fin 4098) (hq : q.val = t.val % 8 * 512 + r.val + 2) :
    ∑ k : Fin 1024, k0_pay4 (iblk m c 0 t) (iblk m c 1 t) (ix2 r k) * iblk m c 2 t (ix2 k j) = upK m c (ix3 (sq t) q j) := by
  have e : q = ⟨t.val % 8 * 512 + r.val + 2, by omega⟩ := Fin.ext hq
  rw [e]
  exact act m c t r j

/-- What a tile leaves in the carried rows. -/
theorem hOut_at (c : Dev nD) (t : Fin cfg0.N) (k : Fin 8) (j : Fin 5632) :
    hOut m c t (ix2 k j) = upK m c (ix3 (sq t) ⟨t.val % 8 * 512 + 506 + k.val, by omega⟩ j) :=
  tailF_U _ _ (upK m c) (sq t) (t.val % 8 * 512) (by omega) (act' m c t) k j

/-- Rows 6 and 7 a tile starts from are the reference's two positions before the tile. -/
theorem hIn_at (c : Dev nD) (t : Fin cfg0.N) (i : Fin 2) (j : Fin 5632) :
    hIn m c t (ix2 ⟨6 + i.val, by omega⟩ j) = upK m c (ix3 (sq t) ⟨t.val % 8 * 512 + i.val, by omega⟩ j) := by
  have ht := Nat.lt_of_lt_of_eq t.isLt N_0
  by_cases h0 : t.val % 8 = 0
  · rw [show hIn m c t = bufRows (F := Ideal) (iblk m c 5 t) (fun _ => Scalar.ofBits (F := Ideal) .f32 0#32) from if_pos h0]
    have e : bufRows (F := Ideal) (iblk m c 5 t) (fun _ => Scalar.ofBits (F := Ideal) .f32 0#32) (ix2 (⟨6 + i.val, by omega⟩ : Fin 8) j)
        = k0_pay5 (iblk m c 5 t) (ix2 (⟨6 + i.val - 6, by omega⟩ : Fin 2) j) := dif_pos (Nat.le_add_right 6 _)
    have e2 : (⟨6 + i.val - 6, by omega⟩ : Fin 2) = i := Fin.ext (by show 6 + i.val - 6 = i.val; omega)
    rw [e, e2, pay5_at, blk_b]
    have e3 : (⟨t.val % 8 * 512 + i.val, by omega⟩ : Fin 4098) = ⟨i.val, by omega⟩ := Fin.ext (by show t.val % 8 * 512 + i.val = i.val; omega)
    rw [e3]
    exact (upR_lo _ _ _ (sq t) ⟨i.val, by omega⟩ i.isLt j).symm
  · rw [show hIn m c t = hOut m c ⟨t.val - 1, Nat.lt_of_le_of_lt (Nat.sub_le _ _) t.isLt⟩ from if_neg h0, hOut_at]
    refine congrArg (upK m c) ?_
    have e1 : sq ⟨t.val - 1, Nat.lt_of_le_of_lt (Nat.sub_le _ _) t.isLt⟩ = sq t := Fin.ext (by show (t.val - 1) / 8 = t.val / 8; omega)
    rw [e1]
    refine congrArg (fun q => ix3 (sq t) q j) (Fin.ext ?_)
    show (t.val - 1) % 8 * 512 + 506 + (6 + i.val) = t.val % 8 * 512 + i.val
    omega

/-- The same, at a row and a position given by their numbers. -/
theorem hIn_at' (c : Dev nD) (t : Fin cfg0.N) (i : Fin 2) (j : Fin 5632) (k : Fin 8) (q : Fin 4098) (hk : k.val = 6 + i.val) (hq : q.val = t.val % 8 * 512 + i.val) :
    hIn m c t (ix2 k j) = upK m c (ix3 (sq t) q j) := by
  refine (congrArg (hIn m c t) (congrArg (fun q => ix2 q j) (Fin.ext hk))).trans ((hIn_at m c t i j).trans ?_)
  exact congrArg (upK m c) (congrArg (fun q => ix3 (sq t) q j) (Fin.ext hq.symm))

/-- The array row of row `r` of a tile. -/
abbrev rw' (t : Fin cfg0.N) (r : Fin 512) : Fin 16384 := ⟨t.val * 512 + r.val, by have := Nat.lt_of_lt_of_eq t.isLt N_0; omega⟩

/-- The prompt of a tile's row is the quotient of its array row by 4096. -/
theorem sq_eq (t : Fin cfg0.N) (r : Fin 512) : sq t = ⟨(rw' t r).val / 4096, by omega⟩ :=
  Fin.ext (by show t.val / 8 = (t.val * 512 + r.val) / 4096; omega)

/-- The position of a tile's row in its prompt is the remainder. -/
theorem ps_eq (t : Fin cfg0.N) (r : Fin 512) : ps t r = ⟨(rw' t r).val % 4096, by omega⟩ :=
  Fin.ext (by show t.val % 8 * 512 + r.val = (t.val * 512 + r.val) % 4096; omega)

/-- The result of a tile, from its two summands. -/
theorem yF_at (x : Vec Ideal S512x1024 .f32) (g : Vec Ideal S1x1024 .f32) (W : Vec Ideal S1024x5632 .bf16) (cw : Vec Ideal S3x5632 .f32) (wo : Vec Ideal S2816x1024 .bf16) (d : Vec Ideal S8x5632 .f32)
    (r : Fin 512) (e : Fin 1024) : yF x g W cw wo d (ix2 r e) = x (ix2 r e) + accF (k0_pay4 x g) W cw wo d 11 (ix2 r e) := by
  rw [← pay3_at x r e]
  rfl

/-- A tile's block of the first result is the reference's. -/
theorem point (c : Dev nD) (t : Fin cfg0.N) (r : Fin 512) (e : Fin 1024) :
    yBlk m c t (ix2 r e) = REF m c (ix2 (rw' t r) e) := by
  refine (yF_at _ _ _ _ _ _ r e).trans ?_
  refine Eq.trans ?_ (yR_at _ _ _ (rw' t r) e).symm
  rw [← sq_eq t r, ← ps_eq t r]
  exact congrArg₂ (· + ·) (blk_x m c t r e) (accF_ref _ _ _ _ _ (upK m c) _ _ (sq t) (t.val % 8 * 512) (by omega) (act' m c t) (hIn_at' m c t)
    (fun k j => blk_c m c t k j) (fun k e => blk_o m c t k e) r e)

/-- The first result's array. -/
theorem final_6 (c : Dev nD) : (dats m 0 c).arrAt 6 (cfgs 0).N = REF m c := by
  refine (dats m 0 c).arrAt_eq_of_covers 6 _ (by decide +kernel) fun t _ y => ?_
  blk_simp
  rw [after_6]
  have hp := point m c t
  generalize REF m c = X at hp ⊢
  idx_vars y
  refine (hp y0 y1).trans ?_
  blk_ext [idx t]

/-- A sequence's last tile leaves the reference's last two rows. -/
theorem point_last (c : Dev nD) (t : Fin cfg0.N) (h7 : t.val % 8 = 7) (i : Fin 2) (j : Fin 5632) :
    lastBlk m c t (ix3 0 i j) = stR (upK m c) (ix3 (sq t) i j) := by
  refine (pay2_at _ i j).trans ?_
  have e : stRows (hOut m c t) (ix2 i j) = hOut m c t (ix2 (⟨6 + i.val, by omega⟩ : Fin 8) j) := rfl
  rw [e, hOut_at, stR_at]
  refine congrArg (upK m c) (congrArg (fun q => ix3 (sq t) q j) (Fin.ext ?_))
  show t.val % 8 * 512 + 506 + (6 + i.val) = 4096 + i.val
  omega

/-- The second result's array. -/
theorem final_7 (c : Dev nD) : (dats m 0 c).arrAt 7 (cfgs 0).N = stR (upK m c) := by
  refine (dats m 0 c).arrAt_eq_of_covers 7 _ (by decide +kernel) fun t hf y => ?_
  have h7 := (flush0_7 t).mp hf
  have hp := point_last m c t h7
  blk_simp
  rw [after_7]
  generalize stR (upK m c) = X at hp ⊢
  idx_vars y
  obtain rfl : y0 = 0 := Subsingleton.elim _ _
  refine (hp y1 y2).trans ?_
  blk_ext [idx t]

end Cert.FfnIdeal.Ffn

end
-- ==== Proof.Ffn.Claims.lean ====
/- The feed-forward call's claims: the three frames and the equality with the reference over the reals. -/
module

public import proofs.«01_k».proof.Defs
public import proofs.«01_k».proof.Proof.Gen.Ffn
public import proofs.«01_k».proof.Proof.Ffn.Value

@[expose] public section

set_option maxRecDepth 16384

noncomputable section

namespace Cert.Proof.Ffn

open Idealize.ShloMosaic Idealize.ShloMosaic.TcCoe Idealize.SL.Sem

/-- The two printed kernels' bodies are the same text. -/
theorem defs₀_eq : Cert.Ffn.defs₀ (F := Bits) = Cert.FfnIdeal.defs₀ (F := Bits) := by
  unfold Cert.Ffn.defs₀ Cert.FfnIdeal.defs₀
  refine congrArg Defs.onTc (funext fun l => funext fun a => ?_)
  match l, a with
  | ⟨0, _⟩, (t, s) => rfl
  | ⟨n + 1, h⟩, _ => exact absurd h (Nat.not_lt.2 (Nat.le_add_left _ _))

/-- The two printed kernels' procedures are the same. -/
theorem defs_eq : Cert.Ffn.defs (F := Bits) = Cert.FfnIdeal.defs (F := Bits) := by
  unfold Cert.Ffn.defs Cert.FfnIdeal.defs
  exact congrArg (Pipeline.defs _) defs₀_eq

/-- The kernel's frame at the machine's floats: the run is the one proved for any floats. -/
theorem frame_kernel : Cert.quiescent_Ffn := fun m ρ _ => by
  have h := Cert.FfnIdeal.Ffn.frame_run (F := Bits) m ρ
  rw [← defs_eq] at h
  exact h

/-- The kernel's frame over the reals. -/
theorem frame_kernelIdeal : Cert.quiescent_FfnIdeal := fun m ρ _ =>
  Cert.FfnIdeal.Ffn.frame_run (F := Ideal) m ρ

/-- The reference's frame; it has no semaphore. -/
theorem frame_referenceIdeal : Cert.quiescent_FfnReferenceIdeal := fun m ρ _ =>
  (θ_run _ _ _).mono (fun r h => ⟨fun c => (h c).2.2, sem_eq_zero_of_no_sems rfl r.2⟩)
    (Cert.FfnReferenceIdeal.Ffn.run_terms (F := Ideal) m ρ)

/-- Kernel and reference agree over the reals. -/
theorem algebraic : Cert.algebraic_FfnIdeal_FfnReferenceIdeal := by
  pair_intro
  · run_from Cert.FfnIdeal.Ffn.run_main m g
  · have e : ∀ c, Cert.FfnReferenceIdeal.Ffn.upM m' c = Cert.FfnIdeal.Ffn.upK m c := fun c => by
      unfold Cert.FfnReferenceIdeal.Ffn.upM
      rw [(hagree c).1, (hagree c).2.1, (hagree c).2.2.1, (hagree c).2.2.2.2.2]
    run_from Cert.FfnReferenceIdeal.Ffn.run_terms m' g'
    · rw [e c, Cert.FfnIdeal.Ffn.final_6 m c]
    · rw [e c, Cert.FfnIdeal.Ffn.final_7 m c]

end Cert.Proof.Ffn

end
-- ==== Proof.lean ====
/- The claims of the two calls: for each the three frames, the unchanged idealization, and the equality with the reference
   over the reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Lru.RefRun
public import proofs.«01_k».proof.Proof.Lru.Run
public import proofs.«01_k».proof.Proof.Lru.Claims
public import proofs.«01_k».proof.Proof.Ffn.Claims
public import Idealize.ShloMosaic.Adequacy
public import Idealize.ShloMosaic.Init

@[expose] public section

noncomputable section

namespace Cert.Proof

open Idealize.ShloMosaic Idealize.SL.Sem Cert.Kernel

/-- All claims of the recurrence call and of the feed-forward call. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Lru.frame_kernel, Lru.frame_kernelIdeal, Lru.frame_referenceIdeal,
    Ffn.frame_kernel, Ffn.frame_kernelIdeal, Ffn.frame_referenceIdeal,
    trivial, Lru.algebraic, trivial, Ffn.algebraic⟩

end Cert.Proof

end
